-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_edges [hPre_finite_and_edges : Cert.Pre_finite_and_edges.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_edges [hPre_finite_and_edges : Cert.Pre_finite_and_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_edges [hKernelIdeal : Cert.KernelIdeal.Facts] [hPre_finite_and_edges : Cert.Pre_finite_and_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_edges [hReferenceIdeal : Cert.ReferenceIdeal.Facts] [hPre_finite_and_edges : Cert.Pre_finite_and_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "one_minus_slope" .f32 0x3F4CCCCD#32 ((53687091 / 67108864 : ℝ) : EReal)
  ∧ IdealRules.named_const.Statement Cert.KernelIdeal.κ "mask" .f32 0xF149F2CA#32 ⊥

def algebraic_KernelIdeal_ReferenceIdeal_pre_finite_and_edges [hKernelIdeal : Cert.KernelIdeal.Facts] [hReferenceIdeal : Cert.ReferenceIdeal.Facts] [hPre_finite_and_edges : Cert.Pre_finite_and_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_edges : Cert.Pre_finite_and_edges.Facts),
    quiescent_Kernel (hKernel := hKernel)
    ∧ quiescent_KernelIdeal (hKernelIdeal := hKernelIdeal)
    ∧ quiescent_KernelIdeal_pre_finite_and_edges (hKernelIdeal := hKernelIdeal) (hPre_finite_and_edges := hPre_finite_and_edges)
    ∧ quiescent_ReferenceIdeal (hReferenceIdeal := hReferenceIdeal)
    ∧ quiescent_ReferenceIdeal_pre_finite_and_edges (hReferenceIdeal := hReferenceIdeal) (hPre_finite_and_edges := hPre_finite_and_edges)
    ∧ preserves_Kernel_KernelIdeal
    ∧ algebraic_KernelIdeal_ReferenceIdeal_pre_finite_and_edges (hKernelIdeal := hKernelIdeal) (hReferenceIdeal := hReferenceIdeal) (hPre_finite_and_edges := hPre_finite_and_edges)
-- ==== Pre_finite_and_edges.lean ====
abbrev S4x100x128x19 : Shape := ⟨4, ![4, 100, 128, 19]⟩
abbrev S640x128 : Shape := ⟨2, ![640, 128]⟩
abbrev S640 : Shape := ⟨1, ![640]⟩
abbrev S8x80 : Shape := ⟨2, ![8, 80]⟩
abbrev S1x640 : Shape := ⟨2, ![1, 640]⟩
abbrev S1 : Shape := ⟨1, ![1]⟩
abbrev S2x39862 : Shape := ⟨2, ![2, 39862]⟩
abbrev S39862 : Shape := ⟨1, ![39862]⟩
abbrev S_ : Shape := ⟨0, ![]⟩
abbrev S1x39862 : Shape := ⟨2, ![1, 39862]⟩

class Facts : Prop where
  bcast_S_S39862 : S_.BroadcastsInDim S39862 (![] : Fin 0 → Fin S39862.rank)
  bcast_S_S4x100x128x19 : S_.BroadcastsInDim S4x100x128x19 (![] : Fin 0 → Fin S4x100x128x19.rank)
  reducesTo_S4x100x128x19_S_d0_1_2_3 : S4x100x128x19.ReducesTo [0, 1, 2, 3] S_
  h_S_ : 0 < S_.numel
  bcast_S_S640x128 : S_.BroadcastsInDim S640x128 (![] : Fin 0 → Fin S640x128.rank)
  reducesTo_S640x128_S_d0_1 : S640x128.ReducesTo [0, 1] S_
  bcast_S_S640 : S_.BroadcastsInDim S640 (![] : Fin 0 → Fin S640.rank)
  reducesTo_S640_S_d0 : S640.ReducesTo [0] S_
  bcast_S_S8x80 : S_.BroadcastsInDim S8x80 (![] : Fin 0 → Fin S8x80.rank)
  reducesTo_S8x80_S_d0_1 : S8x80.ReducesTo [0, 1] S_
  bcast_S_S1x640 : S_.BroadcastsInDim S1x640 (![] : Fin 0 → Fin S1x640.rank)
  reducesTo_S1x640_S_d0_1 : S1x640.ReducesTo [0, 1] S_
  bcast_S_S1 : S_.BroadcastsInDim S1 (![] : Fin 0 → Fin S1.rank)
  reducesTo_S1_S_d0 : S1.ReducesTo [0] S_
  slices_S2x39862_S1x39862_0_0 : S2x39862.Slices ![0, 0] S1x39862
  shapeCasts_S1x39862_S39862 : S1x39862.ShapeCasts S39862
  reducesTo_S39862_S_d0 : S39862.ReducesTo [0] S_
  slices_S2x39862_S1x39862_1_0 : S2x39862.Slices ![1, 0] S1x39862

variable [Facts]

def fn_where {F : FTy → Type} [FloatOps F] (arg0 : IVec S39862 1) (arg1 : IVec S39862 32) (arg2 : IVec S39862 32) : IVec S39862 32 :=
  let v0 : IVec S39862 32 := select arg0 arg1 arg2
  v0

def fn_part6 {F : FTy → Type} [FloatOps F] (main_arg11 : IVec S2x39862 32) (main_v20 : IVec S39862 32) (main_v47 : IVec S39862 32) (main_v97 : IVec S_ 1) (main_v100 : IVec S1 1) (main_c_40 : IVec S_ 1) : IVec S_ 1 :=
  let main_v101 : IVec S_ 1 := (fun x v => Host.reduce IntOp.andi x v reducesTo_S1_S_d0 h_S_) main_v100 main_c_40
  let main_v102 : IVec S_ 1 := andi main_v97 main_v101
  let main_v103 : IVec S1x39862 32 := (extractStridedSlice S1x39862 ![0, 0] · slices_S2x39862_S1x39862_0_0) main_arg11
  let main_v104 : IVec S39862 32 := shapeCast S39862 main_v103 shapeCasts_S1x39862_S39862
  let main_v105 : IVec S39862 1 := cmpi .eq main_v104 main_v20
  let main_c_41 : IVec S_ 1 := constantI S_ 1 1#1
  let main_v106 : IVec S_ 1 := (fun x v => Host.reduce IntOp.andi x v reducesTo_S39862_S_d0 h_S_) main_v105 main_c_41
  let main_v107 : IVec S_ 1 := andi main_v102 main_v106
  let main_v108 : IVec S1x39862 32 := (extractStridedSlice S1x39862 ![1, 0] · slices_S2x39862_S1x39862_1_0) main_arg11
  let main_v109 : IVec S39862 32 := shapeCast S39862 main_v108 shapeCasts_S1x39862_S39862
  let main_v110 : IVec S39862 1 := cmpi .eq main_v109 main_v47
  let main_c_42 : IVec S_ 1 := constantI S_ 1 1#1
  let main_v111 : IVec S_ 1 := (fun x v => Host.reduce IntOp.andi x v reducesTo_S39862_S_d0 h_S_) main_v110 main_c_42
  let main_v112 : IVec S_ 1 := andi main_v107 main_v111
  main_v112

def fn_part5 {F : FTy → Type} [FloatOps F] (main_arg8 : FVec F S1 .f32) (main_arg9 : FVec F S1x640 .f32) (main_arg10 : FVec F S1 .f32) (main_arg11 : IVec S2x39862 32) (main_v20 : IVec S39862 32) (main_v47 : IVec S39862 32) (main_v82 : IVec S_ 1) (main_v83 : FVec F S1x640 .f32) (main_cst_33 : FVec F S_ .f32) : IVec S_ 1 :=
  let main_v84 : FVec F S1x640 .f32 := broadcastInDim S1x640 ![] bcast_S_S1x640 main_cst_33
  let main_v85 : IVec S1x640 1 := cmpf .olt main_v83 main_v84
  let main_c_34 : IVec S_ 1 := constantI S_ 1 1#1
  let main_v86 : IVec S_ 1 := (fun x v => Host.reduce IntOp.andi x v reducesTo_S1x640_S_d0_1 h_S_) main_v85 main_c_34
  let main_v87 : IVec S_ 1 := andi main_v82 main_v86
  let main_v88 : FVec F S1 .f32 := Host.absf main_arg8
  let main_cst_35 : FVec F S_ .f32 := constant S_ .f32 0x7F800000#32
  let main_v89 : FVec F S1 .f32 := broadcastInDim S1 ![] bcast_S_S1 main_cst_35
  let main_v90 : IVec S1 1 := cmpf .olt main_v88 main_v89
  let main_c_36 : IVec S_ 1 := constantI S_ 1 1#1
  let main_v91 : IVec S_ 1 := (fun x v => Host.reduce IntOp.andi x v reducesTo_S1_S_d0 h_S_) main_v90 main_c_36
  let main_v92 : IVec S_ 1 := andi main_v87 main_v91
  let main_v93 : FVec F S1x640 .f32 := Host.absf main_arg9
  let main_cst_37 : FVec F S_ .f32 := constant S_ .f32 0x7F800000#32
  let main_v94 : FVec F S1x640 .f32 := broadcastInDim S1x640 ![] bcast_S_S1x640 main_cst_37
  let main_v95 : IVec S1x640 1 := cmpf .olt main_v93 main_v94
  let main_c_38 : IVec S_ 1 := constantI S_ 1 1#1
  let main_v96 : IVec S_ 1 := (fun x v => Host.reduce IntOp.andi x v reducesTo_S1x640_S_d0_1 h_S_) main_v95 main_c_38
  let main_v97 : IVec S_ 1 := andi main_v92 main_v96
  let main_v98 : FVec F S1 .f32 := Host.absf main_arg10
  let main_cst_39 : FVec F S_ .f32 := constant S_ .f32 0x7F800000#32
  let main_v99 : FVec F S1 .f32 := broadcastInDim S1 ![] bcast_S_S1 main_cst_39
  let main_v100 : IVec S1 1 := cmpf .olt main_v98 main_v99
  let main_c_40 : IVec S_ 1 := constantI S_ 1 1#1
  fn_part6 (F := F) main_arg11 main_v20 main_v47 main_v97 main_v100 main_c_40

def fn_part4 {F : FTy → Type} [FloatOps F] (main_arg4 : FVec F S640 .f32) (main_arg5 : FVec F S8x80 .f32) (main_arg6 : FVec F S640 .f32) (main_arg7 : FVec F S1x640 .f32) (main_arg8 : FVec F S1 .f32) (main_arg9 : FVec F S1x640 .f32) (main_arg10 : FVec F S1 .f32) (main_arg11 : IVec S2x39862 32) (main_v20 : IVec S39862 32) (main_v47 : IVec S39862 32) (main_v62 : IVec S_ 1) (main_v66 : IVec S_ 1) : IVec S_ 1 :=
  let main_v67 : IVec S_ 1 := andi main_v62 main_v66
  let main_v68 : FVec F S640 .f32 := Host.absf main_arg4
  let main_cst_27 : FVec F S_ .f32 := constant S_ .f32 0x7F800000#32
  let main_v69 : FVec F S640 .f32 := broadcastInDim S640 ![] bcast_S_S640 main_cst_27
  let main_v70 : IVec S640 1 := cmpf .olt main_v68 main_v69
  let main_c_28 : IVec S_ 1 := constantI S_ 1 1#1
  let main_v71 : IVec S_ 1 := (fun x v => Host.reduce IntOp.andi x v reducesTo_S640_S_d0 h_S_) main_v70 main_c_28
  let main_v72 : IVec S_ 1 := andi main_v67 main_v71
  let main_v73 : FVec F S8x80 .f32 := Host.absf main_arg5
  let main_cst_29 : FVec F S_ .f32 := constant S_ .f32 0x7F800000#32
  let main_v74 : FVec F S8x80 .f32 := broadcastInDim S8x80 ![] bcast_S_S8x80 main_cst_29
  let main_v75 : IVec S8x80 1 := cmpf .olt main_v73 main_v74
  let main_c_30 : IVec S_ 1 := constantI S_ 1 1#1
  let main_v76 : IVec S_ 1 := (fun x v => Host.reduce IntOp.andi x v reducesTo_S8x80_S_d0_1 h_S_) main_v75 main_c_30
  let main_v77 : IVec S_ 1 := andi main_v72 main_v76
  let main_v78 : FVec F S640 .f32 := Host.absf main_arg6
  let main_cst_31 : FVec F S_ .f32 := constant S_ .f32 0x7F800000#32
  let main_v79 : FVec F S640 .f32 := broadcastInDim S640 ![] bcast_S_S640 main_cst_31
  let main_v80 : IVec S640 1 := cmpf .olt main_v78 main_v79
  let main_c_32 : IVec S_ 1 := constantI S_ 1 1#1
  let main_v81 : IVec S_ 1 := (fun x v => Host.reduce IntOp.andi x v reducesTo_S640_S_d0 h_S_) main_v80 main_c_32
  let main_v82 : IVec S_ 1 := andi main_v77 main_v81
  let main_v83 : FVec F S1x640 .f32 := Host.absf main_arg7
  let main_cst_33 : FVec F S_ .f32 := constant S_ .f32 0x7F800000#32
  fn_part5 (F := F) main_arg8 main_arg9 main_arg10 main_arg11 main_v20 main_v47 main_v82 main_v83 main_cst_33

def fn_part3 {F : FTy → Type} [FloatOps F] (main_arg1 : FVec F S640x128 .f32) (main_arg2 : FVec F S640 .f32) (main_arg3 : FVec F S640x128 .f32) (main_arg4 : FVec F S640 .f32) (main_arg5 : FVec F S8x80 .f32) (main_arg6 : FVec F S640 .f32) (main_arg7 : FVec F S1x640 .f32) (main_arg8 : FVec F S1 .f32) (main_arg9 : FVec F S1x640 .f32) (main_arg10 : FVec F S1 .f32) (main_arg11 : IVec S2x39862 32) (main_v20 : IVec S39862 32) (main_v47 : IVec S39862 32) (main_v50 : IVec S4x100x128x19 1) : IVec S_ 1 :=
  let main_c_19 : IVec S_ 1 := constantI S_ 1 1#1
  let main_v51 : IVec S_ 1 := (fun x v => Host.reduce IntOp.andi x v reducesTo_S4x100x128x19_S_d0_1_2_3 h_S_) main_v50 main_c_19
  let main_c_20 : IVec S_ 1 := constantI S_ 1 1#1
  let main_v52 : IVec S_ 1 := andi main_c_20 main_v51
  let main_v53 : FVec F S640x128 .f32 := Host.absf main_arg1
  let main_cst_21 : FVec F S_ .f32 := constant S_ .f32 0x7F800000#32
  let main_v54 : FVec F S640x128 .f32 := broadcastInDim S640x128 ![] bcast_S_S640x128 main_cst_21
  let main_v55 : IVec S640x128 1 := cmpf .olt main_v53 main_v54
  let main_c_22 : IVec S_ 1 := constantI S_ 1 1#1
  let main_v56 : IVec S_ 1 := (fun x v => Host.reduce IntOp.andi x v reducesTo_S640x128_S_d0_1 h_S_) main_v55 main_c_22
  let main_v57 : IVec S_ 1 := andi main_v52 main_v56
  let main_v58 : FVec F S640 .f32 := Host.absf main_arg2
  let main_cst_23 : FVec F S_ .f32 := constant S_ .f32 0x7F800000#32
  let main_v59 : FVec F S640 .f32 := broadcastInDim S640 ![] bcast_S_S640 main_cst_23
  let main_v60 : IVec S640 1 := cmpf .olt main_v58 main_v59
  let main_c_24 : IVec S_ 1 := constantI S_ 1 1#1
  let main_v61 : IVec S_ 1 := (fun x v => Host.reduce IntOp.andi x v reducesTo_S640_S_d0 h_S_) main_v60 main_c_24
  let main_v62 : IVec S_ 1 := andi main_v57 main_v61
  let main_v63 : FVec F S640x128 .f32 := Host.absf main_arg3
  let main_cst_25 : FVec F S_ .f32 := constant S_ .f32 0x7F800000#32
  let main_v64 : FVec F S640x128 .f32 := broadcastInDim S640x128 ![] bcast_S_S640x128 main_cst_25
  let main_v65 : IVec S640x128 1 := cmpf .olt main_v63 main_v64
  let main_c_26 : IVec S_ 1 := constantI S_ 1 1#1
  let main_v66 : IVec S_ 1 := (fun x v => Host.reduce IntOp.andi x v reducesTo_S640x128_S_d0_1 h_S_) main_v65 main_c_26
  fn_part4 (F := F) main_arg4 main_arg5 main_arg6 main_arg7 main_arg8 main_arg9 main_arg10 main_arg11 main_v20 main_v47 main_v62 main_v66

def fn_part2 {F : FTy → Type} [FloatOps F] (main_arg0 : FVec F S4x100x128x19 .f32) (main_arg1 : FVec F S640x128 .f32) (main_arg2 : FVec F S640 .f32) (main_arg3 : FVec F S640x128 .f32) (main_arg4 : FVec F S640 .f32) (main_arg5 : FVec F S8x80 .f32) (main_arg6 : FVec F S640 .f32) (main_arg7 : FVec F S1x640 .f32) (main_arg8 : FVec F S1 .f32) (main_arg9 : FVec F S1x640 .f32) (main_arg10 : FVec F S1 .f32) (main_arg11 : IVec S2x39862 32) (main_v20 : IVec S39862 32) (main_v30 : IVec S39862 32) (main_v32 : IVec S39862 1) (main_c_13 : IVec S_ 32) : IVec S_ 1 :=
  let main_v33 : IVec S39862 32 := broadcastInDim S39862 ![] bcast_S_S39862 main_c_13
  let main_v34 : IVec S39862 32 := subi main_v20 main_v33
  let main_c_14 : IVec S_ 32 := constantI S_ 32 20#32
  let main_v35 : IVec S39862 32 := broadcastInDim S39862 ![] bcast_S_S39862 main_c_14
  let main_v36 : IVec S39862 1 := cmpi .eq main_v30 main_v35
  let main_c_15 : IVec S_ 32 := constantI S_ 32 19#32
  let main_v37 : IVec S39862 32 := broadcastInDim S39862 ![] bcast_S_S39862 main_c_15
  let main_v38 : IVec S39862 32 := addi main_v20 main_v37
  let main_c_16 : IVec S_ 32 := constantI S_ 32 19#32
  let main_v39 : IVec S39862 32 := broadcastInDim S39862 ![] bcast_S_S39862 main_c_16
  let main_v40 : IVec S39862 32 := Host.divsi main_v20 main_v39
  let main_c_17 : IVec S_ 32 := constantI S_ 32 19#32
  let main_v41 : IVec S39862 32 := broadcastInDim S39862 ![] bcast_S_S39862 main_c_17
  let main_v42 : IVec S39862 32 := muli main_v40 main_v41
  let main_v43 : IVec S39862 32 := addi main_v42 main_v30
  let main_c_18 : IVec S_ 32 := constantI S_ 32 1#32
  let main_v44 : IVec S39862 32 := broadcastInDim S39862 ![] bcast_S_S39862 main_c_18
  let main_v45 : IVec S39862 32 := subi main_v43 main_v44
  let main_v46 : IVec S39862 32 := fn_where (F := F) main_v36 main_v38 main_v45
  let main_v47 : IVec S39862 32 := fn_where (F := F) main_v32 main_v34 main_v46
  let main_v48 : FVec F S4x100x128x19 .f32 := Host.absf main_arg0
  let main_cst : FVec F S_ .f32 := constant S_ .f32 0x7F800000#32
  let main_v49 : FVec F S4x100x128x19 .f32 := broadcastInDim S4x100x128x19 ![] bcast_S_S4x100x128x19 main_cst
  let main_v50 : IVec S4x100x128x19 1 := cmpf .olt main_v48 main_v49
  fn_part3 (F := F) main_arg1 main_arg2 main_arg3 main_arg4 main_arg5 main_arg6 main_arg7 main_arg8 main_arg9 main_arg10 main_arg11 main_v20 main_v47 main_v50

def fn_part1 {F : FTy → Type} [FloatOps F] (main_arg0 : FVec F S4x100x128x19 .f32) (main_arg1 : FVec F S640x128 .f32) (main_arg2 : FVec F S640 .f32) (main_arg3 : FVec F S640x128 .f32) (main_arg4 : FVec F S640 .f32) (main_arg5 : FVec F S8x80 .f32) (main_arg6 : FVec F S640 .f32) (main_arg7 : FVec F S1x640 .f32) (main_arg8 : FVec F S1 .f32) (main_arg9 : FVec F S1x640 .f32) (main_arg10 : FVec F S1 .f32) (main_arg11 : IVec S2x39862 32) (main_v0 : IVec S39862 32) (main_v2 : IVec S39862 1) (main_v4 : IVec S39862 1) (main_v6 : IVec S39862 32) (main_v8 : IVec S39862 32) (main_v10 : IVec S39862 32) (main_v14 : IVec S39862 32) (main_v15 : IVec S39862 32) : IVec S_ 1 :=
  let main_v16 : IVec S39862 32 := Host.divsi main_v6 main_v15
  let main_c_7 : IVec S_ 32 := constantI S_ 32 19#32
  let main_v17 : IVec S39862 32 := broadcastInDim S39862 ![] bcast_S_S39862 main_c_7
  let main_v18 : IVec S39862 32 := addi main_v17 main_v16
  let main_v19 : IVec S39862 32 := fn_where (F := F) main_v4 main_v14 main_v18
  let main_v20 : IVec S39862 32 := fn_where (F := F) main_v2 main_v10 main_v19
  let main_c_8 : IVec S_ 32 := constantI S_ 32 20#32
  let main_v21 : IVec S39862 32 := broadcastInDim S39862 ![] bcast_S_S39862 main_c_8
  let main_v22 : IVec S39862 32 := Host.remsi main_v0 main_v21
  let main_c_9 : IVec S_ 32 := constantI S_ 32 1#32
  let main_v23 : IVec S39862 32 := broadcastInDim S39862 ![] bcast_S_S39862 main_c_9
  let main_v24 : IVec S39862 32 := addi main_v22 main_v23
  let main_c_10 : IVec S_ 32 := constantI S_ 32 20#32
  let main_v25 : IVec S39862 32 := broadcastInDim S39862 ![] bcast_S_S39862 main_c_10
  let main_v26 : IVec S39862 32 := Host.remsi main_v8 main_v25
  let main_c_11 : IVec S_ 32 := constantI S_ 32 21#32
  let main_v27 : IVec S39862 32 := broadcastInDim S39862 ![] bcast_S_S39862 main_c_11
  let main_v28 : IVec S39862 32 := Host.remsi main_v6 main_v27
  let main_v29 : IVec S39862 32 := fn_where (F := F) main_v4 main_v26 main_v28
  let main_v30 : IVec S39862 32 := fn_where (F := F) main_v2 main_v24 main_v29
  let main_c_12 : IVec S_ 32 := constantI S_ 32 0#32
  let main_v31 : IVec S39862 32 := broadcastInDim S39862 ![] bcast_S_S39862 main_c_12
  let main_v32 : IVec S39862 1 := cmpi .eq main_v30 main_v31
  let main_c_13 : IVec S_ 32 := constantI S_ 32 19#32
  fn_part2 (F := F) main_arg0 main_arg1 main_arg2 main_arg3 main_arg4 main_arg5 main_arg6 main_arg7 main_arg8 main_arg9 main_arg10 main_arg11 main_v20 main_v30 main_v32 main_c_13

def fn {F : FTy → Type} [FloatOps F] (main_arg0 : FVec F S4x100x128x19 .f32) (main_arg1 : FVec F S640x128 .f32) (main_arg2 : FVec F S640 .f32) (main_arg3 : FVec F S640x128 .f32) (main_arg4 : FVec F S640 .f32) (main_arg5 : FVec F S8x80 .f32) (main_arg6 : FVec F S640 .f32) (main_arg7 : FVec F S1x640 .f32) (main_arg8 : FVec F S1 .f32) (main_arg9 : FVec F S1x640 .f32) (main_arg10 : FVec F S1 .f32) (main_arg11 : IVec S2x39862 32) : IVec S_ 1 :=
  let main_v0 : IVec S39862 32 := iotaInDim S39862 32 0
  let main_c : IVec S_ 32 := constantI S_ 32 380#32
  let main_v1 : IVec S39862 32 := broadcastInDim S39862 ![] bcast_S_S39862 main_c
  let main_v2 : IVec S39862 1 := cmpi .slt main_v0 main_v1
  let main_c_0 : IVec S_ 32 := constantI S_ 32 39482#32
  let main_v3 : IVec S39862 32 := broadcastInDim S39862 ![] bcast_S_S39862 main_c_0
  let main_v4 : IVec S39862 1 := cmpi .sge main_v0 main_v3
  let main_c_1 : IVec S_ 32 := constantI S_ 32 380#32
  let main_v5 : IVec S39862 32 := broadcastInDim S39862 ![] bcast_S_S39862 main_c_1
  let main_v6 : IVec S39862 32 := subi main_v0 main_v5
  let main_c_2 : IVec S_ 32 := constantI S_ 32 39482#32
  let main_v7 : IVec S39862 32 := broadcastInDim S39862 ![] bcast_S_S39862 main_c_2
  let main_v8 : IVec S39862 32 := subi main_v0 main_v7
  let main_c_3 : IVec S_ 32 := constantI S_ 32 20#32
  let main_v9 : IVec S39862 32 := broadcastInDim S39862 ![] bcast_S_S39862 main_c_3
  let main_v10 : IVec S39862 32 := Host.divsi main_v0 main_v9
  let main_c_4 : IVec S_ 32 := constantI S_ 32 20#32
  let main_v11 : IVec S39862 32 := broadcastInDim S39862 ![] bcast_S_S39862 main_c_4
  let main_v12 : IVec S39862 32 := Host.divsi main_v8 main_v11
  let main_c_5 : IVec S_ 32 := constantI S_ 32 1881#32
  let main_v13 : IVec S39862 32 := broadcastInDim S39862 ![] bcast_S_S39862 main_c_5
  let main_v14 : IVec S39862 32 := addi main_v13 main_v12
  let main_c_6 : IVec S_ 32 := constantI S_ 32 21#32
  let main_v15 : IVec S39862 32 := broadcastInDim S39862 ![] bcast_S_S39862 main_c_6
  fn_part1 (F := F) main_arg0 main_arg1 main_arg2 main_arg3 main_arg4 main_arg5 main_arg6 main_arg7 main_arg8 main_arg9 main_arg10 main_arg11 main_v0 main_v2 main_v4 main_v6 main_v8 main_v10 main_v14 main_v15
-- ==== Kernel.lean ====
abbrev S4x100x128x19 : Shape := ⟨4, ![4, 100, 128, 19]⟩
abbrev S640x128 : Shape := ⟨2, ![640, 128]⟩
abbrev S640 : Shape := ⟨1, ![640]⟩
abbrev S8x80 : Shape := ⟨2, ![8, 80]⟩
abbrev S1x640 : Shape := ⟨2, ![1, 640]⟩
abbrev S1 : Shape := ⟨1, ![1]⟩
abbrev S2x39862 : Shape := ⟨2, ![2, 39862]⟩
abbrev S4x100x19x128 : Shape := ⟨4, ![4, 100, 19, 128]⟩
abbrev S_ : Shape := ⟨0, ![]⟩
abbrev S4x100x24x128 : Shape := ⟨4, ![4, 100, 24, 128]⟩
abbrev S4x2400x128 : Shape := ⟨3, ![4, 2400, 128]⟩
abbrev S128x640 : Shape := ⟨2, ![128, 640]⟩
abbrev S1x1 : Shape := ⟨2, ![1, 1]⟩
abbrev S4x1x1 : Shape := ⟨3, ![4, 1, 1]⟩
abbrev S1x2400x128 : Shape := ⟨3, ![1, 2400, 128]⟩
abbrev S1x1x1 : Shape := ⟨3, ![1, 1, 1]⟩
abbrev S2400x128 : Shape := ⟨2, ![2400, 128]⟩
abbrev S2400x640 : Shape := ⟨2, ![2400, 640]⟩
abbrev S2400x80 : Shape := ⟨2, ![2400, 80]⟩
abbrev S1x2400x80 : Shape := ⟨3, ![1, 2400, 80]⟩
abbrev S8x2400x80 : Shape := ⟨3, ![8, 2400, 80]⟩
abbrev S8x1x80 : Shape := ⟨3, ![8, 1, 80]⟩
abbrev S8x100x24x80 : Shape := ⟨4, ![8, 100, 24, 80]⟩
abbrev S8x1x1x80 : Shape := ⟨4, ![8, 1, 1, 80]⟩
abbrev S8x100x24 : Shape := ⟨3, ![8, 100, 24]⟩
abbrev S8x10x24x80 : Shape := ⟨4, ![8, 10, 24, 80]⟩
abbrev S8x10x19x80 : Shape := ⟨4, ![8, 10, 19, 80]⟩
abbrev S8x1x24x80 : Shape := ⟨4, ![8, 1, 24, 80]⟩
abbrev S8x9x24x80 : Shape := ⟨4, ![8, 9, 24, 80]⟩
abbrev S8x1x24 : Shape := ⟨3, ![8, 1, 24]⟩
abbrev S8x9x24 : Shape := ⟨3, ![8, 9, 24]⟩
abbrev S8x10x24 : Shape := ⟨3, ![8, 10, 24]⟩
abbrev S8x10x19 : Shape := ⟨3, ![8, 10, 19]⟩
abbrev S8x10x19x1x80 : Shape := ⟨5, ![8, 10, 19, 1, 80]⟩
abbrev S8x10x1x24x80 : Shape := ⟨5, ![8, 10, 1, 24, 80]⟩
abbrev S8x10x19x24x80 : Shape := ⟨5, ![8, 10, 19, 24, 80]⟩
abbrev S8x1x1x1x80 : Shape := ⟨5, ![8, 1, 1, 1, 80]⟩
abbrev S8x10x19x24 : Shape := ⟨4, ![8, 10, 19, 24]⟩
abbrev S8x10x19x1 : Shape := ⟨4, ![8, 10, 19, 1]⟩
abbrev S8x10x1x24 : Shape := ⟨4, ![8, 10, 1, 24]⟩
abbrev S8x10x19x24x1 : Shape := ⟨5, ![8, 10, 19, 24, 1]⟩
abbrev S10x19 : Shape := ⟨2, ![10, 19]⟩
abbrev S100x19 : Shape := ⟨2, ![100, 19]⟩
abbrev S1x100x19 : Shape := ⟨3, ![1, 100, 19]⟩

abbrev nBuf : Space → Nat
  | .hbm => 28
  | .vmem => 13
  | .smem => 0
  | _ => 0

abbrev bufTy : (tb : Table) → Fin (tcTables nBuf tb) → BufTy
  | .hbm, ⟨0, _⟩ => ⟨S4x100x128x19, .f32⟩
  | .hbm, ⟨1, _⟩ => ⟨S640x128, .f32⟩
  | .hbm, ⟨2, _⟩ => ⟨S640, .f32⟩
  | .hbm, ⟨3, _⟩ => ⟨S640x128, .f32⟩
  | .hbm, ⟨4, _⟩ => ⟨S640, .f32⟩
  | .hbm, ⟨5, _⟩ => ⟨S8x80, .f32⟩
  | .hbm, ⟨6, _⟩ => ⟨S640, .f32⟩
  | .hbm, ⟨7, _⟩ => ⟨S1x640, .f32⟩
  | .hbm, ⟨8, _⟩ => ⟨S1, .f32⟩
  | .hbm, ⟨9, _⟩ => ⟨S1x640, .f32⟩
  | .hbm, ⟨10, _⟩ => ⟨S1, .f32⟩
  | .hbm, ⟨11, _⟩ => ⟨S2x39862, .i32⟩
  | .hbm, ⟨12, _⟩ => ⟨S4x100x19x128, .f32⟩
  | .hbm, ⟨13, _⟩ => ⟨S_, .i32⟩
  | .hbm, ⟨14, _⟩ => ⟨S_, .f32⟩
  | .hbm, ⟨15, _⟩ => ⟨S4x100x24x128, .f32⟩
  | .hbm, ⟨16, _⟩ => ⟨S4x2400x128, .f32⟩
  | .hbm, ⟨17, _⟩ => ⟨S128x640, .f32⟩
  | .hbm, ⟨18, _⟩ => ⟨S128x640, .bf16⟩
  | .hbm, ⟨19, _⟩ => ⟨S128x640, .f32⟩
  | .hbm, ⟨20, _⟩ => ⟨S128x640, .bf16⟩
  | .hbm, ⟨21, _⟩ => ⟨S8x80, .f32⟩
  | .hbm, ⟨22, _⟩ => ⟨S8x80, .f32⟩
  | .hbm, ⟨23, _⟩ => ⟨S8x80, .f32⟩
  | .hbm, ⟨24, _⟩ => ⟨S8x80, .f32⟩
  | .hbm, ⟨25, _⟩ => ⟨S8x80, .f32⟩
  | .hbm, ⟨26, _⟩ => ⟨S1x1, .f32⟩
  | .hbm, ⟨27, _⟩ => ⟨S4x1x1, .f32⟩
  | .local _ .vmem, ⟨0, _⟩ => ⟨S1x2400x128, .f32⟩
  | .local _ .vmem, ⟨1, _⟩ => ⟨S1x2400x128, .f32⟩
  | .local _ .vmem, ⟨2, _⟩ => ⟨S128x640, .bf16⟩
  | .local _ .vmem, ⟨3, _⟩ => ⟨S128x640, .bf16⟩
  | .local _ .vmem, ⟨4, _⟩ => ⟨S8x80, .f32⟩
  | .local _ .vmem, ⟨5, _⟩ => ⟨S8x80, .f32⟩
  | .local _ .vmem, ⟨6, _⟩ => ⟨S8x80, .f32⟩
  | .local _ .vmem, ⟨7, _⟩ => ⟨S8x80, .f32⟩
  | .local _ .vmem, ⟨8, _⟩ => ⟨S8x80, .f32⟩
  | .local _ .vmem, ⟨9, _⟩ => ⟨S8x80, .f32⟩
  | .local _ .vmem, ⟨10, _⟩ => ⟨S1x1, .f32⟩
  | .local _ .vmem, ⟨11, _⟩ => ⟨S1x1x1, .f32⟩
  | .local _ .vmem, ⟨12, _⟩ => ⟨S1x1x1, .f32⟩
  | _, _ => ⟨S4x100x128x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | "one_minus_slope" => some ((53687091 / 67108864 : ℝ) : EReal)
  | _ => none
-- ==== ReferenceIdeal.lean ====
abbrev S4x100x128x19 : Shape := ⟨4, ![4, 100, 128, 19]⟩
abbrev S640x128 : Shape := ⟨2, ![640, 128]⟩
abbrev S640 : Shape := ⟨1, ![640]⟩
abbrev S8x80 : Shape := ⟨2, ![8, 80]⟩
abbrev S1x640 : Shape := ⟨2, ![1, 640]⟩
abbrev S1 : Shape := ⟨1, ![1]⟩
abbrev S2x39862 : Shape := ⟨2, ![2, 39862]⟩
abbrev S1x39862 : Shape := ⟨2, ![1, 39862]⟩
abbrev S39862 : Shape := ⟨1, ![39862]⟩
abbrev S4x100x19x128 : Shape := ⟨4, ![4, 100, 19, 128]⟩
abbrev S4x1900x128 : Shape := ⟨3, ![4, 1900, 128]⟩
abbrev S128x640 : Shape := ⟨2, ![128, 640]⟩
abbrev S4x1900x640 : Shape := ⟨3, ![4, 1900, 640]⟩
abbrev S1x1x640 : Shape := ⟨3, ![1, 1, 640]⟩
abbrev S4x1900x8x80 : Shape := ⟨4, ![4, 1900, 8, 80]⟩
abbrev S_ : Shape := ⟨0, ![]⟩
abbrev S39862x1 : Shape := ⟨2, ![39862, 1]⟩
abbrev S4x39862x8x80 : Shape := ⟨4, ![4, 39862, 8, 80]⟩
abbrev S8x4x39862 : Shape := ⟨3, ![8, 4, 39862]⟩
abbrev S4x39862x8 : Shape := ⟨3, ![4, 39862, 8]⟩
abbrev S1900 : Shape := ⟨1, ![1900]⟩
abbrev S1x1900 : Shape := ⟨2, ![1, 1900]⟩
abbrev S39862x1900 : Shape := ⟨2, ![39862, 1900]⟩
abbrev S39862x1900x1 : Shape := ⟨3, ![39862, 1900, 1]⟩
abbrev S4x39862x1x8 : Shape := ⟨4, ![4, 39862, 1, 8]⟩
abbrev S39862x1900x8 : Shape := ⟨3, ![39862, 1900, 8]⟩
abbrev S4x39862x1900x8 : Shape := ⟨4, ![4, 39862, 1900, 8]⟩
abbrev S4x1900x8 : Shape := ⟨3, ![4, 1900, 8]⟩
abbrev S1900x8 : Shape := ⟨2, ![1900, 8]⟩
abbrev S4x39862x8x1 : Shape := ⟨4, ![4, 39862, 8, 1]⟩
abbrev S1900x8x80 : Shape := ⟨3, ![1900, 8, 80]⟩
abbrev S1900x640 : Shape := ⟨2, ![1900, 640]⟩
abbrev S640x1 : Shape := ⟨2, ![640, 1]⟩
abbrev S4x1900x1 : Shape := ⟨3, ![4, 1900, 1]⟩
abbrev S1x1 : Shape := ⟨2, ![1, 1]⟩
abbrev S1x1x1 : Shape := ⟨3, ![1, 1, 1]⟩
abbrev S4x1 : Shape := ⟨2, ![4, 1]⟩
abbrev S4x1x1 : Shape := ⟨3, ![4, 1, 1]⟩
abbrev S4x640 : Shape := ⟨2, ![4, 640]⟩
abbrev S4 : Shape := ⟨1, ![4]⟩

abbrev nBuf : Space → Nat
  | .hbm => 174
  | .vmem => 0
  | .smem => 0
  | _ => 0

abbrev hbmTy0_0 (i : Nat) : BufTy := match i % 128 with
  | 0 => ⟨S4x100x128x19, .f32⟩
  | 1 => ⟨S640x128, .f32⟩
  | 2 => ⟨S640, .f32⟩
  | 3 => ⟨S640x128, .f32⟩
  | 4 => ⟨S640, .f32⟩
  | 5 => ⟨S8x80, .f32⟩
  | 6 => ⟨S640, .f32⟩
  | 7 => ⟨S1x640, .f32⟩
  | 8 => ⟨S1, .f32⟩
  | 9 => ⟨S1x640, .f32⟩
  | 10 => ⟨S1, .f32⟩
  | 11 => ⟨S2x39862, .i32⟩
  | 12 => ⟨S1x39862, .i32⟩
  | 13 => ⟨S39862, .i32⟩
  | 14 => ⟨S1x39862, .i32⟩
  | 15 => ⟨S39862, .i32⟩
  | 16 => ⟨S4x100x19x128, .f32⟩
  | 17 => ⟨S4x1900x128, .f32⟩
  | 18 => ⟨S128x640, .f32⟩
  | 19 => ⟨S4x1900x640, .f32⟩
  | 20 => ⟨S1x640, .f32⟩
  | 21 => ⟨S1x1x640, .f32⟩
  | 22 => ⟨S4x1900x640, .f32⟩
  | 23 => ⟨S4x1900x640, .f32⟩
  | 24 => ⟨S4x1900x8x80, .f32⟩
  | 25 => ⟨S128x640, .f32⟩
  | 26 => ⟨S4x1900x640, .f32⟩
  | 27 => ⟨S1x640, .f32⟩
  | 28 => ⟨S1x1x640, .f32⟩
  | 29 => ⟨S4x1900x640, .f32⟩
  | 30 => ⟨S4x1900x640, .f32⟩
  | 31 => ⟨S4x1900x8x80, .f32⟩
  | 32 => ⟨S_, .i32⟩
  | 33 => ⟨S39862, .i32⟩
  | 34 => ⟨S39862, .i1⟩
  | 35 => ⟨S_, .i32⟩
  | 36 => ⟨S39862, .i32⟩
  | 37 => ⟨S39862, .i32⟩
  | 38 => ⟨S39862, .i32⟩
  | 39 => ⟨S39862x1, .i32⟩
  | 40 => ⟨S4x39862x8x80, .f32⟩
  | 41 => ⟨S_, .i32⟩
  | 42 => ⟨S39862, .i32⟩
  | 43 => ⟨S39862, .i1⟩
  | 44 => ⟨S_, .i32⟩
  | 45 => ⟨S39862, .i32⟩
  | 46 => ⟨S39862, .i32⟩
  | 47 => ⟨S39862, .i32⟩
  | 48 => ⟨S39862x1, .i32⟩
  | 49 => ⟨S4x39862x8x80, .f32⟩
  | 50 => ⟨S4x39862x8x80, .f32⟩
  | 51 => ⟨S_, .f32⟩
  | 52 => ⟨S_, .f32⟩
  | 53 => ⟨S4x39862x8x80, .f32⟩
  | 54 => ⟨S4x39862x8x80, .i1⟩
  | 55 => ⟨S_, .f32⟩
  | 56 => ⟨S4x39862x8x80, .f32⟩
  | 57 => ⟨S4x39862x8x80, .f32⟩
  | 58 => ⟨S4x39862x8x80, .f32⟩
  | 59 => ⟨S8x4x39862, .f32⟩
  | 60 => ⟨S4x39862x8, .f32⟩
  | 61 => ⟨S39862x1, .i32⟩
  | 62 => ⟨S1900, .i32⟩
  | 63 => ⟨S1x1900, .i32⟩
  | 64 => ⟨S39862x1900, .i32⟩
  | 65 => ⟨S39862x1900, .i32⟩
  | 66 => ⟨S39862x1900, .i1⟩
  | 67 => ⟨S39862x1900x1, .i1⟩
  | 68 => ⟨S4x39862x1x8, .f32⟩
  | 69 => ⟨S_, .f32⟩
  | 70 => ⟨S_, .f32⟩
  | 71 => ⟨S39862x1900x8, .i1⟩
  | 72 => ⟨S4x39862x1900x8, .f32⟩
  | 73 => ⟨S39862x1900x8, .f32⟩
  | 74 => ⟨S4x39862x1900x8, .i1⟩
  | 75 => ⟨S4x39862x1900x8, .f32⟩
  | 76 => ⟨S4x39862x1900x8, .f32⟩
  | 77 => ⟨S_, .f32⟩
  | 78 => ⟨S4x1900x8, .f32⟩
  | 79 => ⟨S_, .i32⟩
  | 80 => ⟨S39862, .i32⟩
  | 81 => ⟨S39862, .i1⟩
  | 82 => ⟨S_, .i32⟩
  | 83 => ⟨S39862, .i32⟩
  | 84 => ⟨S39862, .i32⟩
  | 85 => ⟨S39862, .i32⟩
  | 86 => ⟨S39862x1, .i32⟩
  | 87 => ⟨S4x39862x8, .f32⟩
  | 88 => ⟨S4x39862x8, .f32⟩
  | 89 => ⟨S4x39862x8, .f32⟩
  | 90 => ⟨S_, .f32⟩
  | 91 => ⟨S1900x8, .f32⟩
  | 92 => ⟨S39862x1, .i32⟩
  | 93 => ⟨S4x1900x8, .f32⟩
  | 94 => ⟨S4x1900x8, .f32⟩
  | 95 => ⟨S_, .i32⟩
  | 96 => ⟨S39862, .i32⟩
  | 97 => ⟨S39862, .i1⟩
  | 98 => ⟨S_, .i32⟩
  | 99 => ⟨S39862, .i32⟩
  | 100 => ⟨S39862, .i32⟩
  | 101 => ⟨S39862, .i32⟩
  | 102 => ⟨S39862x1, .i32⟩
  | 103 => ⟨S4x39862x8, .f32⟩
  | 104 => ⟨S4x39862x8, .f32⟩
  | 105 => ⟨S_, .i32⟩
  | 106 => ⟨S39862, .i32⟩
  | 107 => ⟨S39862, .i1⟩
  | 108 => ⟨S_, .i32⟩
  | 109 => ⟨S39862, .i32⟩
  | 110 => ⟨S39862, .i32⟩
  | 111 => ⟨S39862, .i32⟩
  | 112 => ⟨S39862x1, .i32⟩
  | 113 => ⟨S4x39862x8x80, .f32⟩
  | 114 => ⟨S4x39862x8x1, .f32⟩
  | 115 => ⟨S4x39862x8x80, .f32⟩
  | 116 => ⟨S4x39862x8x80, .f32⟩
  | 117 => ⟨S_, .f32⟩
  | 118 => ⟨S1900x8x80, .f32⟩
  | 119 => ⟨S39862x1, .i32⟩
  | 120 => ⟨S4x1900x8x80, .f32⟩
  | 121 => ⟨S4x1900x8x80, .f32⟩
  | 122 => ⟨S4x1900x640, .f32⟩
  | 123 => ⟨S1x640, .f32⟩
  | 124 => ⟨S1x1x640, .f32⟩
  | 125 => ⟨S4x1900x640, .f32⟩
  | 126 => ⟨S4x1900x640, .f32⟩
  | 127 => ⟨S_, .f32⟩
  | _ => ⟨S4x100x128x19, .f32⟩

abbrev hbmTy0_1 (i : Nat) : BufTy := match i % 128 with
  | 0 => ⟨S4x1900x640, .f32⟩
  | 1 => ⟨S4x1900x640, .i1⟩
  | 2 => ⟨S_, .f32⟩
  | 3 => ⟨S4x1900x640, .f32⟩
  | 4 => ⟨S4x1900x640, .i1⟩
  | 5 => ⟨S_, .f32⟩
  | 6 => ⟨S_, .f32⟩
  | 7 => ⟨S1900x640, .f32⟩
  | 8 => ⟨S4x1900x640, .f32⟩
  | 9 => ⟨S4x1900x640, .f32⟩
  | 10 => ⟨S4x1900x640, .f32⟩
  | 11 => ⟨S_, .f32⟩
  | 12 => ⟨S4x1900x640, .f32⟩
  | 13 => ⟨S4x1900x640, .f32⟩
  | 14 => ⟨S4x1900x640, .f32⟩
  | 15 => ⟨S640x1, .f32⟩
  | 16 => ⟨S4x1900x1, .f32⟩
  | 17 => ⟨S1x1, .f32⟩
  | 18 => ⟨S1x1x1, .f32⟩
  | 19 => ⟨S4x1900x1, .f32⟩
  | 20 => ⟨S4x1900x1, .f32⟩
  | 21 => ⟨S_, .f32⟩
  | 22 => ⟨S4x1, .f32⟩
  | 23 => ⟨S_, .f32⟩
  | 24 => ⟨S4x1, .f32⟩
  | 25 => ⟨S4x1, .f32⟩
  | 26 => ⟨S4x1x1, .f32⟩
  | 27 => ⟨S4x1900x1, .f32⟩
  | 28 => ⟨S4x1900x1, .f32⟩
  | 29 => ⟨S4x1900x1, .f32⟩
  | 30 => ⟨S_, .f32⟩
  | 31 => ⟨S4x1, .f32⟩
  | 32 => ⟨S4x1x1, .f32⟩
  | 33 => ⟨S4x1900x1, .f32⟩
  | 34 => ⟨S4x1900x1, .f32⟩
  | 35 => ⟨S4x1900x640, .f32⟩
  | 36 => ⟨S4x1900x640, .f32⟩
  | 37 => ⟨S_, .f32⟩
  | 38 => ⟨S4x640, .f32⟩
  | 39 => ⟨S640x1, .f32⟩
  | 40 => ⟨S4x1, .f32⟩
  | 41 => ⟨S1x1, .f32⟩
  | 42 => ⟨S4x1, .f32⟩
  | 43 => ⟨S4x1, .f32⟩
  | 44 => ⟨S4, .f32⟩
  | 45 => ⟨S4x1x1, .f32⟩
  | _ => ⟨S4x100x128x19, .f32⟩

abbrev hbmTy (i : Nat) : BufTy := match i / 128 with
  | 0 => hbmTy0_0 i
  | 1 => hbmTy0_1 i
  | _ => ⟨S4x100x128x19, .f32⟩

abbrev bufTy : (tb : Table) → Fin (tcTables nBuf tb) → BufTy
  | .hbm, ⟨i, _⟩ => hbmTy i
  | _, _ => ⟨S4x100x128x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_v46 : Ref sig .tc := ⟨.hbm, 76, rfl⟩
abbrev main_cst_4 : Ref sig .tc := ⟨.hbm, 77, rfl⟩
abbrev main_v47 : Ref sig .tc := ⟨.hbm, 78, rfl⟩
abbrev main_c_5 : Ref sig .tc := ⟨.hbm, 79, rfl⟩
abbrev main_v48 : Ref sig .tc := ⟨.hbm, 80, rfl⟩
abbrev main_v49 : Ref sig .tc := ⟨.hbm, 81, rfl⟩
abbrev main_c_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_8 : Ref sig .tc := ⟨.hbm, 95, rfl⟩
abbrev main_v61 : Ref sig .tc := ⟨.hbm, 96, rfl⟩
abbrev main_v62 : Ref sig .tc := ⟨.hbm, 97, rfl⟩
abbrev main_c_9 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_10 : Ref sig .tc := ⟨.hbm, 105, rfl⟩
abbrev main_v69 : Ref sig .tc := ⟨.hbm, 106, rfl⟩
abbrev main_v70 : Ref sig .tc := ⟨.hbm, 107, rfl⟩
abbrev main_c_11 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_cst_1 : Ref sig .tc := ⟨.hbm, 133, rfl⟩
abbrev main_call2_call0_v0 : Ref sig .tc := ⟨.hbm, 134, rfl⟩
abbrev main_call2_call0_v1 : Ref sig .tc := ⟨.hbm, 135, rfl⟩
abbrev main_call2_call0_v2 : Ref sig .tc := ⟨.hbm, 136, rfl⟩
abbrev main_call2_v4 : Ref sig .tc := ⟨.hbm, 137, rfl⟩
abbrev main_call2_v5 : Ref sig .tc := ⟨.hbm, 138, rfl⟩
abbrev main_call2_cst_2 : Ref sig .tc := ⟨.hbm, 139, rfl⟩
abbrev main_call2_v6 : Ref sig .tc := ⟨.hbm, 140, rfl⟩
abbrev main_call2_v7 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_13 : Ref sig .tc := ⟨.hbm, 149, rfl⟩
abbrev main_v95 : Ref sig .tc := ⟨.hbm, 150, rfl⟩
abbrev main_cst_14 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_15 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_16 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩

abbrev nD : Nat := 1
abbrev τ : Topo := Topo.v7x

variable {F : FTy → Type} [FloatOps F]
-- ==== Proof.Chunk.lean ====
/- What the kernel stores, written once as a function of one group of ten windows: the attention of the group's
   nodes over their own window's electrodes and over the windows before and after, the activation, and the sum of the
   result against a weight. The ten groups of the body are this function at the slices they read, and the stored
   value is the softmax-weighted mean of the ten groups' sums. -/
module

public import proofs.«01_k».proof.Proof.Gen.KernelIdeal.Frame

@[expose] public section

set_option maxRecDepth 16384

noncomputable section

namespace Cert.KernelIdeal.Chunk

open Idealize.ShloMosaic Idealize.ShloMosaic.TcCoe Idealize.SL.Sem Cert.KernelIdeal Cert.KernelIdeal.Gen

variable {F : FTy → Type} [FloatOps F] [Named F]

/-! ## One group of ten windows -/

/-- The slope times one vector plus one minus the slope times another: a logit from its linear and its rectified part. -/
def blend (s : Shape) (lin rect : FVec F s .f32) : FVec F s .f32 :=
  addf (mulf (broadcast s (Scalar.ofBits .f32 0x3E4CCCCD#32)) lin)
    (mulf (broadcast s (Named.named κ "one_minus_slope" 0x3F4CCCCD#32)) rect)

/-- The logits of the group's nodes against the electrodes of their own window, the padded electrodes masked. -/
def own (att : FVec F S8x80 .f32) (xl : FVec F S8x10x24x80 .f32) (xr : FVec F S8x10x19x80 .f32)
    (al : FVec F S8x10x24 .f32) (ar : FVec F S8x10x19 .f32) : FVec F S8x10x19x24 .f32 :=
  select (cmpi .slt (iota .tc S8x10x19x24 32 [3] iota_S8x10x19x24_d3_w32) (broadcast S8x10x19x24 19#32))
    (blend S8x10x19x24
      (addf
        (broadcastTo S8x10x19x24 (shapeCast S8x10x19x1 ar shapeCasts_S8x10x19_S8x10x19x1) broadcasts_S8x10x19x1_S8x10x19x24)
        (broadcastTo S8x10x19x24 (shapeCast S8x10x1x24 al shapeCasts_S8x10x24_S8x10x1x24) broadcasts_S8x10x1x24_S8x10x19x24))
      (multiReduction .add [4] S8x10x19x24
        (mulf
          (maximumf
            (addf
              (broadcastTo S8x10x19x24x80 (shapeCast S8x10x19x1x80 xr shapeCasts_S8x10x19x80_S8x10x19x1x80) broadcasts_S8x10x19x1x80_S8x10x19x24x80)
              (broadcastTo S8x10x19x24x80 (shapeCast S8x10x1x24x80 xl shapeCasts_S8x10x24x80_S8x10x1x24x80) broadcasts_S8x10x1x24x80_S8x10x19x24x80))
            (broadcast S8x10x19x24x80 (Scalar.ofBits .f32 0x00000000#32)))
          (broadcastTo S8x10x19x24x80 (shapeCast S8x1x1x1x80 att shapeCasts_S8x80_S8x1x1x1x80) broadcasts_S8x1x1x1x80_S8x10x19x24x80))
        0x00000000#32 reduces_S8x10x19x24x80_S8x10x19x24 (.inl rfl) rfl))
    (broadcast S8x10x19x24 (Named.named κ "mask" 0xF149F2CA#32))

/-- The logits of the group's nodes against the same electrodes of another window. -/
def side (att : FVec F S8x80 .f32) (xr xs : FVec F S8x10x19x80 .f32) (ar z : FVec F S8x10x19 .f32) :
    FVec F S8x10x19 .f32 :=
  blend S8x10x19 (addf ar z)
    (multiReduction .add [3] S8x10x19
      (mulf (maximumf (addf xr xs) (broadcast S8x10x19x80 (Scalar.ofBits .f32 0x00000000#32)))
        (broadcastTo S8x10x19x80 (shapeCast S8x1x1x80 att shapeCasts_S8x80_S8x1x1x80) broadcasts_S8x1x1x80_S8x10x19x80))
      0x00000000#32 reduces_S8x10x19x80_S8x10x19 (.inl rfl) rfl)

/-- The window's number, of a group that starts at window `w0`. -/
def number (w0 : BitVec 32) : IVec S8x10x19 32 :=
  addi (iota .tc S8x10x19 32 [1] iota_S8x10x19_d1_w32) (broadcast S8x10x19 w0)

/-- The logits against the window before, masked in the first window. -/
def before (w0 : BitVec 32) (l : FVec F S8x10x19 .f32) : FVec F S8x10x19 .f32 :=
  select (cmpi .sgt (number w0) (broadcast S8x10x19 0#32)) l (broadcast S8x10x19 (Named.named κ "mask" 0xF149F2CA#32))

/-- The logits against the window after, masked in the last window. -/
def after (w0 : BitVec 32) (l : FVec F S8x10x19 .f32) : FVec F S8x10x19 .f32 :=
  select (cmpi .slt (number w0) (broadcast S8x10x19 99#32)) l (broadcast S8x10x19 (Named.named κ "mask" 0xF149F2CA#32))

/-- The largest logit of every node. -/
def top (lo : FVec F S8x10x19x24 .f32) (lm lp : FVec F S8x10x19 .f32) : FVec F S8x10x19 .f32 :=
  maximumf (multiReduction .maximumf [3] S8x10x19 lo 0xFF800000#32 reduces_S8x10x19x24_S8x10x19 (.inl rfl) rfl) (maximumf lm lp)

/-- The weights of the own window's electrodes, before they are normalised. -/
def ownWeight (lo : FVec F S8x10x19x24 .f32) (lm lp : FVec F S8x10x19 .f32) : FVec F S8x10x19x24 .f32 :=
  exp (subf lo (broadcastTo S8x10x19x24 (shapeCast S8x10x19x1 (top lo lm lp) shapeCasts_S8x10x19_S8x10x19x1) broadcasts_S8x10x19x1_S8x10x19x24))

/-- A vector of the nodes repeated over the channels. -/
def spread (v : FVec F S8x10x19 .f32) : FVec F S8x10x19x80 .f32 :=
  broadcastTo S8x10x19x80 (shapeCast S8x10x19x1 v shapeCasts_S8x10x19_S8x10x19x1) broadcasts_S8x10x19x1_S8x10x19x80

/-- The attention's output: the weighted mean of the sources, plus the bias. -/
def mean (gb : FVec F S8x1x1x80 .f32) (xl : FVec F S8x10x24x80 .f32) (xm xp : FVec F S8x10x19x80 .f32)
    (lo : FVec F S8x10x19x24 .f32) (lm lp : FVec F S8x10x19 .f32) : FVec F S8x10x19x80 .f32 :=
  addf
    (divf
      (addf
        (addf
          (multiReduction .add [3] S8x10x19x80
            (mulf
              (broadcastTo S8x10x19x24x80 (shapeCast S8x10x19x24x1 (ownWeight lo lm lp) shapeCasts_S8x10x19x24_S8x10x19x24x1) broadcasts_S8x10x19x24x1_S8x10x19x24x80)
              (broadcastTo S8x10x19x24x80 (shapeCast S8x10x1x24x80 xl shapeCasts_S8x10x24x80_S8x10x1x24x80) broadcasts_S8x10x1x24x80_S8x10x19x24x80))
            0x00000000#32 reduces_S8x10x19x24x80_S8x10x19x80 (.inl rfl) rfl)
          (mulf (spread (exp (subf lm (top lo lm lp)))) xm))
        (mulf (spread (exp (subf lp (top lo lm lp)))) xp))
      (spread
        (addf
          (addf (multiReduction .add [3] S8x10x19 (ownWeight lo lm lp) 0x00000000#32 reduces_S8x10x19x24_S8x10x19 (.inl rfl) rfl)
            (exp (subf lm (top lo lm lp))))
          (exp (subf lp (top lo lm lp))))))
    (broadcastTo S8x10x19x80 gb broadcasts_S8x1x1x80_S8x10x19x80)

/-- The exponential linear unit. -/
def act (v : FVec F S8x10x19x80 .f32) : FVec F S8x10x19x80 .f32 :=
  select (cmpf .ogt v (broadcast S8x10x19x80 (Scalar.ofBits .f32 0x00000000#32))) v
    (subf (exp v) (broadcast S8x10x19x80 (Scalar.ofBits .f32 0x3F800000#32)))

/-- The sum of the features against a weight, over heads and channels. -/
def score (w : FVec F S8x1x1x80 .f32) (o : FVec F S8x10x19x80 .f32) : FVec F S10x19 .f32 :=
  multiReduction .add [0] S10x19
    (multiReduction .add [3] S8x10x19 (mulf o (broadcastTo S8x10x19x80 w broadcasts_S8x1x1x80_S8x10x19x80)) 0x00000000#32 reduces_S8x10x19x80_S8x10x19 (.inl rfl) rfl)
    0x00000000#32 reduces_S8x10x19_S10x19 (.inl rfl) rfl

/-- The sums of a group's ten windows, from what the group reads: the group's own features (`xl`, `xr`) and their
    sums against the attention (`al`, `ar`), and the features and sums of the windows before and after. -/
def group (att : FVec F S8x80 .f32) (gb w : FVec F S8x1x1x80 .f32) (w0 : BitVec 32)
    (xl : FVec F S8x10x24x80 .f32) (xr xm xp : FVec F S8x10x19x80 .f32)
    (al : FVec F S8x10x24 .f32) (ar am ap : FVec F S8x10x19 .f32) : FVec F S10x19 .f32 :=
  score w (act (mean gb xl xm xp (own att xl xr al ar) (before w0 (side att xr xm ar am)) (after w0 (side att xr xp ar ap))))

/-! ## The ten groups -/

/-- The first nineteen electrodes of ten windows' features. -/
def real4 (v : FVec F S8x10x24x80 .f32) : FVec F S8x10x19x80 .f32 :=
  extractStridedSlice S8x10x19x80 ![0, 0, 0, 0] v slices_S8x10x24x80_o0_0_0_0_S8x10x19x80

/-- The first nineteen electrodes of ten windows' sums. -/
def real3 (v : FVec F S8x10x24 .f32) : FVec F S8x10x19 .f32 :=
  extractStridedSlice S8x10x19 ![0, 0, 0] v slices_S8x10x24_o0_0_0_S8x10x19

/-- Ten windows of the features, from window `o`. -/
def cut4 (o : ℕ) (v : FVec F S8x100x24x80 .f32) (h : S8x100x24x80.Slices ![0, o, 0, 0] S8x10x24x80) : FVec F S8x10x24x80 .f32 :=
  extractStridedSlice S8x10x24x80 ![0, o, 0, 0] v h

/-- Ten windows of the sums, from window `o`. -/
def cut3 (o : ℕ) (v : FVec F S8x100x24 .f32) (h : S8x100x24.Slices ![0, o, 0] S8x10x24) : FVec F S8x10x24 .f32 :=
  extractStridedSlice S8x10x24 ![0, o, 0] v h

/-- The group that starts at window `o`, the windows before and after given as the groups they make up. -/
def groupAt (att : FVec F S8x80 .f32) (gb w : FVec F S8x1x1x80 .f32) (xl xr : FVec F S8x100x24x80 .f32)
    (al ar : FVec F S8x100x24 .f32) (o : ℕ) (w0 : BitVec 32)
    (h4 : S8x100x24x80.Slices ![0, o, 0, 0] S8x10x24x80) (h4' : S8x100x24x80.Slices ![0, o, 0, 0] S8x10x19x80)
    (h3 : S8x100x24.Slices ![0, o, 0] S8x10x24) (h3' : S8x100x24.Slices ![0, o, 0] S8x10x19)
    (xm xp : FVec F S8x10x24x80 .f32) (am ap : FVec F S8x10x24 .f32) : FVec F S10x19 .f32 :=
  group att gb w w0 (cut4 o xl h4) (extractStridedSlice S8x10x19x80 ![0, o, 0, 0] xr h4') (real4 xm) (real4 xp)
    (cut3 o al h3) (extractStridedSlice S8x10x19 ![0, o, 0] ar h3') (real3 am) (real3 ap)

theorem slices4 {o : ℕ} (h : o ≤ 90) : S8x100x24x80.Slices ![0, o, 0, 0] S8x10x24x80 := by
  refine ⟨rfl, fun a => ?_⟩
  fin_cases a <;> simp <;> omega
theorem slices4' {o : ℕ} (h : o ≤ 90) : S8x100x24x80.Slices ![0, o, 0, 0] S8x10x19x80 := by
  refine ⟨rfl, fun a => ?_⟩
  fin_cases a <;> simp <;> omega
theorem slices3 {o : ℕ} (h : o ≤ 90) : S8x100x24.Slices ![0, o, 0] S8x10x24 := by
  refine ⟨rfl, fun a => ?_⟩
  fin_cases a <;> simp <;> omega
theorem slices3' {o : ℕ} (h : o ≤ 90) : S8x100x24.Slices ![0, o, 0] S8x10x19 := by
  refine ⟨rfl, fun a => ?_⟩
  fin_cases a <;> simp <;> omega

section
variable (att : FVec F S8x80 .f32) (gb w : FVec F S8x1x1x80 .f32) (xl xr : FVec F S8x100x24x80 .f32)
    (al ar : FVec F S8x100x24 .f32)

/-- A group that is neither the first nor the last. -/
def inner (o m p : ℕ) (hm : m ≤ 90) (ho : o ≤ 90) (hp : p ≤ 90) : FVec F S10x19 .f32 :=
  groupAt att gb w xl xr al ar o (BitVec.ofNat 32 o) (slices4 ho) (slices4' ho) (slices3 ho) (slices3' ho)
    (cut4 m xl (slices4 hm)) (cut4 p xl (slices4 hp)) (cut3 m al (slices3 hm)) (cut3 p al (slices3 hp))

/-- The first group: before its first window the first window itself stands in, which the mask takes out. -/
def first : FVec F S10x19 .f32 :=
  groupAt att gb w xl xr al ar 0 0#32 (slices4 (by omega)) (slices4' (by omega)) (slices3 (by omega)) (slices3' (by omega))
    (concatenate S8x10x24x80 1
      [⟨S8x1x24x80, extractStridedSlice S8x1x24x80 ![0, 0, 0, 0] xl slices_S8x100x24x80_o0_0_0_0_S8x1x24x80⟩,
        ⟨S8x9x24x80, extractStridedSlice S8x9x24x80 ![0, 0, 0, 0] xl slices_S8x100x24x80_o0_0_0_0_S8x9x24x80⟩]
      concatenates_S8x1x24x80_S8x9x24x80_S8x10x24x80_d1)
    (cut4 1 xl (slices4 (by omega)))
    (concatenate S8x10x24 1
      [⟨S8x1x24, extractStridedSlice S8x1x24 ![0, 0, 0] al slices_S8x100x24_o0_0_0_S8x1x24⟩,
        ⟨S8x9x24, extractStridedSlice S8x9x24 ![0, 0, 0] al slices_S8x100x24_o0_0_0_S8x9x24⟩]
      concatenates_S8x1x24_S8x9x24_S8x10x24_d1)
    (cut3 1 al (slices3 (by omega)))

/-- The last group: after its last window the last window itself stands in, which the mask takes out. -/
def last : FVec F S10x19 .f32 :=
  groupAt att gb w xl xr al ar 90 90#32 (slices4 (by omega)) (slices4' (by omega)) (slices3 (by omega)) (slices3' (by omega))
    (cut4 89 xl (slices4 (by omega)))
    (concatenate S8x10x24x80 1
      [⟨S8x9x24x80, extractStridedSlice S8x9x24x80 ![0, 91, 0, 0] xl slices_S8x100x24x80_o0_91_0_0_S8x9x24x80⟩,
        ⟨S8x1x24x80, extractStridedSlice S8x1x24x80 ![0, 99, 0, 0] xl slices_S8x100x24x80_o0_99_0_0_S8x1x24x80⟩]
      concatenates_S8x9x24x80_S8x1x24x80_S8x10x24x80_d1)
    (cut3 89 al (slices3 (by omega)))
    (concatenate S8x10x24 1
      [⟨S8x9x24, extractStridedSlice S8x9x24 ![0, 91, 0] al slices_S8x100x24_o0_91_0_S8x9x24⟩,
        ⟨S8x1x24, extractStridedSlice S8x1x24 ![0, 99, 0] al slices_S8x100x24_o0_99_0_S8x1x24⟩]
      concatenates_S8x9x24_S8x1x24_S8x10x24_d1)

/-- The ten groups, one after another: the sums of every window. -/
def total : FVec F S100x19 .f32 :=
  concatenate S100x19 0
    [⟨S10x19, first att gb w xl xr al ar⟩,
      ⟨S10x19, inner att gb w xl xr al ar 10 9 11 (by omega) (by omega) (by omega)⟩,
      ⟨S10x19, inner att gb w xl xr al ar 20 19 21 (by omega) (by omega) (by omega)⟩,
      ⟨S10x19, inner att gb w xl xr al ar 30 29 31 (by omega) (by omega) (by omega)⟩,
      ⟨S10x19, inner att gb w xl xr al ar 40 39 41 (by omega) (by omega) (by omega)⟩,
      ⟨S10x19, inner att gb w xl xr al ar 50 49 51 (by omega) (by omega) (by omega)⟩,
      ⟨S10x19, inner att gb w xl xr al ar 60 59 61 (by omega) (by omega) (by omega)⟩,
      ⟨S10x19, inner att gb w xl xr al ar 70 69 71 (by omega) (by omega) (by omega)⟩,
      ⟨S10x19, inner att gb w xl xr al ar 80 79 81 (by omega) (by omega) (by omega)⟩,
      ⟨S10x19, last att gb w xl xr al ar⟩]
    concatenates_S10x19_S10x19_S10x19_S10x19_S10x19_S10x19_S10x19_S10x19_S10x19_S10x19_S100x19_d0

end

/-- The unnormalised weights of all windows' nodes, from their scores. -/
def nodeWeight (sp : FVec F S100x19 .f32) : FVec F S100x19 .f32 :=
  exp (subf sp (broadcast S100x19
    (extractAt ![0, 0, 0]
      (shapeCast S1x1x1
        (multiReduction .maximumf [1, 2] S1 (shapeCast S1x100x19 sp shapeCasts_S100x19_S1x100x19) 0xFF800000#32 reduces_S1x100x19_S1 (.inl rfl) rfl)
        shapeCasts_S1_S1x1x1)
      inpos_S1x1x1_p0_0_0)))

/-- The sum over all windows' nodes. -/
def sumAll (v : FVec F S100x19 .f32) : FVec F S1x1x1 .f32 :=
  shapeCast S1x1x1
    (multiReduction .add [1, 2] S1 (shapeCast S1x100x19 v shapeCasts_S100x19_S1x100x19) 0x00000000#32 reduces_S1x100x19_S1 (.inl rfl) rfl)
    shapeCasts_S1_S1x1x1

/-- The stored value: the weighted mean of the second vector under the softmax of the first, plus the bias. -/
def closing (sp sf : FVec F S100x19 .f32) (b : FVec F S1x1 .f32) : FVec F S1x1x1 .f32 :=
  shapeCast S1x1x1
    (addf
      (divf (broadcast S1x1 (extractAt ![0, 0, 0] (sumAll (mulf (nodeWeight sp) sf)) inpos_S1x1x1_p0_0_0))
        (broadcast S1x1 (extractAt ![0, 0, 0] (sumAll (nodeWeight sp)) inpos_S1x1x1_p0_0_0)))
      (shapeCast S1x1 b shapeCasts_S1x1_S1x1))
    shapeCasts_S1x1_S1x1x1

section
variable (x0 : Vec F S1x2400x128 .f32) (x1 x2 : Vec F S128x640 .bf16) (x3 x4 x5 x6 x7 x8 : Vec F S8x80 .f32) (x9 : Vec F S1x1 .f32)

/-- The window sums of the kernel's features against the weight `w`. -/
def sums (w : FVec F S8x1x1x80 .f32) : FVec F S100x19 .f32 :=
  total (View.ld x5 r0_2) (k0_pay236 x0 x1 x2 x3 x4 x5 x6 x7 x8 x9) w
    (k0_pay234 x0 x1 x2 x3 x4 x5 x6 x7 x8 x9) (k0_pay235 x0 x1 x2 x3 x4 x5 x6 x7 x8 x9)
    (k0_pay239 x0 x1 x2 x3 x4 x5 x6 x7 x8 x9) (k0_pay240 x0 x1 x2 x3 x4 x5 x6 x7 x8 x9)

/-- What the body leaves in the result's block. -/
theorem out_eq : out0_10 x0 x1 x2 x3 x4 x5 x6 x7 x8 x9 =
    View.canon [⟨r0_4, closing (sums x0 x1 x2 x3 x4 x5 x6 x7 x8 x9 (k0_pay237 x0 x1 x2 x3 x4 x5 x6 x7 x8 x9))
      (sums x0 x1 x2 x3 x4 x5 x6 x7 x8 x9 (k0_pay238 x0 x1 x2 x3 x4 x5 x6 x7 x8 x9)) (View.ld x9 r0_3)⟩] := rfl

end

end Cert.KernelIdeal.Chunk

end
-- ==== Proof.Reals.lean ====
/- Extended reals that are reals: sums, maxima, quotients and exponentials of coerced reals are coerced reals, and the
   float constants of the two programs. A softmax whose largest logit is any real is the softmax without it. -/
module

public import Idealize.ShloMosaic.PureOps.Ideal

@[expose] public section

noncomputable section

namespace Cert.Reals

open Idealize.ShloMosaic

/-! ## Coercion through the operations -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b :=
  EReal.coe_strictMono.monotone.map_max

theorem coe_max_zero (a : ℝ) : ((max a 0 : ℝ) : EReal) = max (a : EReal) 0 := by
  rw [coe_max, EReal.coe_zero]

theorem coe_ite (p : Prop) [Decidable p] (a b : ℝ) : ((if p then a else b : ℝ) : EReal) = if p then (a : EReal) else b := by
  split <;> rfl

theorem div_coe_coe (a : ℝ) {b : ℝ} (hb : b ≠ 0) : Ideal.div (a : EReal) b = ((a / b : ℝ) : EReal) := by
  rw [Ideal.div_coe hb, ← EReal.coe_mul, mul_one_div]

/-- The exponential as a real: zero at `⊥`. -/
def expR (x : EReal) : ℝ := (Ideal.exp x).toReal

@[simp] theorem expR_coe (r : ℝ) : expR r = Real.exp r := rfl

@[simp] theorem expR_bot : expR ⊥ = 0 := by simp [expR]

theorem expR_nonneg (x : EReal) : 0 ≤ expR x := by
  induction x with
  | bot => simp
  | top => simp [expR]
  | coe r => simp [Real.exp_nonneg]

/-- Below `⊤` a shift of the exponent by a real is a factor. -/
theorem exp_sub {x : EReal} (hx : x ≠ ⊤) (m : ℝ) : Ideal.exp (x - m) = ((expR x * Real.exp (-m) : ℝ) : EReal) := by
  induction x with
  | bot => simp
  | top => exact absurd rfl hx
  | coe r => rw [← EReal.coe_sub, Ideal.exp_coe, expR_coe, ← Real.exp_add, sub_eq_add_neg]

/-- The largest of finitely many values below `⊤`, one of them above `⊥`, is a real. -/
theorem fold_max_real_on {ι : Type} (s : Finset ι) (f : ι → EReal) (ht : ∀ k ∈ s, f k ≠ ⊤) (k : ι) (hk : k ∈ s) (hb : f k ≠ ⊥) :
    ∃ m : ℝ, s.fold max ⊥ f = (m : EReal) := by
  have h1 : s.fold max ⊥ f ≠ ⊤ := by
    have : s.fold max ⊥ f < ⊤ := by
      rw [Finset.fold_max_lt]
      exact ⟨bot_lt_top, fun x hx => lt_of_le_of_ne le_top (ht x hx)⟩
    exact this.ne
  have h2 : s.fold max ⊥ f ≠ ⊥ := by
    have : ⊥ < s.fold max ⊥ f := by
      rw [Finset.lt_fold_max]
      exact Or.inr ⟨k, hk, lt_of_le_of_ne bot_le (Ne.symm hb)⟩
    exact this.ne'
  exact ⟨_, (EReal.coe_toReal h1 h2).symm⟩

/-- `fold_max_real_on` over a whole type. -/
theorem fold_max_real {ι : Type} [Fintype ι] (f : ι → EReal) (ht : ∀ k, f k ≠ ⊤) (k : ι) (hb : f k ≠ ⊥) :
    ∃ m : ℝ, Finset.univ.fold max ⊥ f = (m : EReal) :=
  fold_max_real_on _ f (fun k _ => ht k) k (Finset.mem_univ k) hb

/-- The maximum with values below `⊤` of a real is a real. -/
theorem max_real {x y : EReal} (hx : ∃ m : ℝ, x = m) (hy : y ≠ ⊤) : ∃ m : ℝ, max x y = (m : EReal) := by
  obtain ⟨m, rfl⟩ := hx
  induction y with
  | bot => exact ⟨m, max_eq_left bot_le⟩
  | top => exact absurd rfl hy
  | coe r => exact ⟨_, (coe_max m r).symm⟩

/-! ## Constants -/

/-- The slope of the rectifier: the float `0.2`, as the real it denotes. -/
def leak : ℝ := 13421773 / 67108864

theorem ofBits_leak : Ideal.ofBits .f32 0x3E4CCCCD#32 = (leak : EReal) := by
  simp [Ideal.ofBits, Ideal.ieee, -EReal.coe_mul, leak]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

end Cert.Reals

end
-- ==== Proof.Spec.lean ====
/- The mathematics both programs compute, over the reals, on one graph: attention over the in-neighbours of every
   node, the exponential linear unit, and the softmax-weighted mean of the nodes against a weight. -/
module

public import proofs.«01_k».proof.Proof.Reals

@[expose] public section

noncomputable section

namespace Cert.Spec

open Cert.Reals

/-- The rectifier with a slope below zero. -/
def leaky (z : ℝ) : ℝ := if 0 ≤ z then z else leak * z

/-- The logit of a source's features `l` at a target's features `r`. -/
def logit (a l r : Fin 80 → ℝ) : ℝ := ∑ c, a c * leaky (l c + r c)

/-- The exponential linear unit. -/
def elu (v : ℝ) : ℝ := if 0 < v then v else Real.exp v - 1

/-- The window before, the first window standing in before itself. -/
def prev (w : Fin 100) : Fin 100 := ⟨w.val - 1, by omega⟩

/-- The window after, the last window standing in after itself. -/
def next (w : Fin 100) : Fin 100 := ⟨min (w.val + 1) 99, by omega⟩

/-- The sum over the in-neighbours of node `(w, i)`: the electrodes of its own window, and the same electrode in the
    windows before and after, where there are any. -/
def around (w : Fin 100) (i : Fin 19) (f : Fin 100 → Fin 19 → ℝ) : ℝ :=
  (∑ s, f w s) + (if 0 < w.val then f (prev w) i else 0) + (if w.val < 99 then f (next w) i else 0)

/-- The features of the nodes of one graph, head by head: as sources and as targets. -/
abbrev Feat : Type := Fin 8 → Fin 100 → Fin 19 → Fin 80 → ℝ

section
variable (A : Fin 8 → Fin 80 → ℝ) (L R : Feat)

/-- The unnormalised attention of node `(w, i)` to node `(v, s)`. -/
def weight (h : Fin 8) (w : Fin 100) (i : Fin 19) (v : Fin 100) (s : Fin 19) : ℝ :=
  Real.exp (logit (A h) (L h v s) (R h w i))

/-- The sum of a node's unnormalised attention. -/
def mass (h : Fin 8) (w : Fin 100) (i : Fin 19) : ℝ := around w i (weight A L R h w i)

/-- The attention's output at a node, without the bias. -/
def attend (h : Fin 8) (w : Fin 100) (i : Fin 19) (c : Fin 80) : ℝ :=
  around w i (fun v s => weight A L R h w i v s * L h v s c) / mass A L R h w i

variable (G : Fin 8 → Fin 80 → ℝ)

/-- The features after attention, bias and activation. -/
def feat (h : Fin 8) (w : Fin 100) (i : Fin 19) (c : Fin 80) : ℝ := elu (attend A L R h w i c + G h c)

/-- The sum of a node's features against a weight. -/
def score (W : Fin 8 → Fin 80 → ℝ) (w : Fin 100) (i : Fin 19) : ℝ := ∑ h, ∑ c, feat A L R G h w i c * W h c

/-- The result: the mean of the nodes' sums against `V` under the softmax of their sums against `W`, plus a bias. -/
def result (W V : Fin 8 → Fin 80 → ℝ) (b : ℝ) : ℝ :=
  (∑ w, ∑ i, Real.exp (score A L R G W w i) * score A L R G V w i) / (∑ w, ∑ i, Real.exp (score A L R G W w i)) + b

theorem mass_pos (h : Fin 8) (w : Fin 100) (i : Fin 19) : 0 < mass A L R h w i := by
  unfold mass around weight
  have h1 : 0 < ∑ s, Real.exp (logit (A h) (L h w s) (R h w i)) := Finset.sum_pos (fun _ _ => Real.exp_pos _) ⟨0, Finset.mem_univ _⟩
  have h2 : ∀ (p : Prop) [Decidable p] (x : ℝ), 0 ≤ if p then Real.exp x else 0 := fun p _ x => by
    split <;> simp [Real.exp_nonneg]
  have := h2 (0 < w.val) (logit (A h) (L h (prev w) i) (R h w i))
  have := h2 (w.val < 99) (logit (A h) (L h (next w) i) (R h w i))
  linarith

end

/-! ## From the arguments -/

/-- The column of head `h`, channel `c`. -/
def col (h : Fin 8) (c : Fin 80) : Fin 640 := ⟨h.val * 80 + c.val, by omega⟩

/-- A vector over all columns, head by head. -/
def heads (v : Fin 640 → ℝ) (h : Fin 8) (c : Fin 80) : ℝ := v (col h c)

/-- A node's features: its frequencies through a linear map. -/
def project (W : Fin 640 → Fin 128 → ℝ) (b : Fin 640 → ℝ) (n : Fin 128 → ℝ) (h : Fin 8) (c : Fin 80) : ℝ :=
  ∑ k, n k * W (col h c) k + b (col h c)

/-- The arguments that are floats, as reals. -/
structure Inputs where
  x : Fin 4 → Fin 100 → Fin 128 → Fin 19 → ℝ
  wl : Fin 640 → Fin 128 → ℝ
  bl : Fin 640 → ℝ
  wr : Fin 640 → Fin 128 → ℝ
  br : Fin 640 → ℝ
  att : Fin 8 → Fin 80 → ℝ
  bias : Fin 640 → ℝ
  pool : Fin 640 → ℝ
  bpool : ℝ
  fc : Fin 640 → ℝ
  bfc : ℝ

/-- The features of graph `b`'s nodes as sources. -/
def Inputs.left (I : Inputs) (b : Fin 4) : Feat := fun h w i c => project I.wl I.bl (fun k => I.x b w k i) h c

/-- The features of graph `b`'s nodes as targets. -/
def Inputs.right (I : Inputs) (b : Fin 4) : Feat := fun h w i c => project I.wr I.br (fun k => I.x b w k i) h c

/-- The result of graph `b`. -/
def Inputs.value (I : Inputs) (b : Fin 4) : ℝ :=
  result I.att (I.left b) (I.right b) (heads I.bias) (heads I.pool) (heads I.fc) I.bfc

/-- A logit from its linear part and its rectified part. -/
theorem logit_blend (a l r : Fin 80 → ℝ) :
    leak * ((∑ c, r c * a c) + ∑ c, l c * a c) + (1 - leak) * ∑ c, max (r c + l c) 0 * a c = logit a l r := by
  rw [← Finset.sum_add_distrib, Finset.mul_sum, Finset.mul_sum, ← Finset.sum_add_distrib]
  refine Finset.sum_congr rfl fun c _ => ?_
  unfold leaky
  split_ifs with h
  · rw [max_eq_left (by linarith)]; ring
  · rw [max_eq_right (by linarith)]; ring

end Cert.Spec

end
-- ==== Proof.GroupAt.lean ====
/- One group of ten windows at one node, over the reals: what the group computes there is the sum of the node's
   features against the weight, given that what it reads there is real. -/
module

public import proofs.«01_k».proof.Proof.Chunk
public import proofs.«01_k».proof.Proof.Spec
public import Idealize.ShloMosaic.Lib.Pointwise

@[expose] public section

set_option maxRecDepth 16384

noncomputable section

namespace Cert.KernelIdeal.Chunk

open Idealize.ShloMosaic Idealize.ShloMosaic.TcCoe Idealize.SL.Sem Cert.KernelIdeal Cert.KernelIdeal.Gen
open Cert.Reals Cert.Spec

/-! ## The two named constants -/

theorem named_mask : (Named.named κ "mask" 0xF149F2CA#32 : Ideal .f32) = (⊥ : EReal) :=
  IdealRules.named_const.ideal_named_scalar _ _ _ _ rfl

theorem named_one_minus : (Named.named κ "one_minus_slope" 0x3F4CCCCD#32 : Ideal .f32) = ((1 - leak : ℝ) : EReal) := by
  have e : (Named.named κ "one_minus_slope" 0x3F4CCCCD#32 : Ideal .f32) = ((53687091 / 67108864 : ℝ) : EReal) :=
    IdealRules.named_const.ideal_named_scalar _ _ _ _ rfl
  exact e.trans (congrArg _ (by norm_num [leak]))

/-- The linear and the rectified part of a logit, put together from reals. -/
theorem blend_real (a l r : Fin 80 → ℝ) :
    Ideal.ofBits .f32 0x3E4CCCCD#32 * (((∑ c, r c * a c : ℝ) : EReal) + ((∑ c, l c * a c : ℝ) : EReal))
      + (Named.named κ "one_minus_slope" 0x3F4CCCCD#32 : Ideal .f32) * ∑ c, max ((r c : EReal) + (l c : EReal)) 0 * (a c : EReal)
    = ((logit a l r : ℝ) : EReal) := by
  have hs : ∑ c, max ((r c : EReal) + (l c : EReal)) 0 * (a c : EReal) = ((∑ c, max (r c + l c) 0 * a c : ℝ) : EReal) := by
    rw [coe_sum]
    exact Finset.sum_congr rfl fun c _ => by rw [EReal.coe_mul, coe_max_zero, EReal.coe_add]
  rw [hs, ofBits_leak, named_one_minus, ← EReal.coe_add, ← EReal.coe_mul, ← EReal.coe_mul, ← EReal.coe_add, logit_blend]

section
variable {h : Fin 8} {w : Fin 10} {i : Fin 19}

theorem own_at {att : FVec Ideal S8x80 .f32} {xl : FVec Ideal S8x10x24x80 .f32} {xr : FVec Ideal S8x10x19x80 .f32}
    {al : FVec Ideal S8x10x24 .f32} {ar : FVec Ideal S8x10x19 .f32} {a r l : Fin 80 → ℝ} {s : Fin 24}
    (hatt : ∀ c, att (ix2 h c) = (a c : EReal)) (hl : ∀ c, xl (ix4 h w s c) = (l c : EReal))
    (hr : ∀ c, xr (ix4 h w i c) = (r c : EReal)) (hal : al (ix3 h w s) = ((∑ c, l c * a c : ℝ) : EReal))
    (har : ar (ix3 h w i) = ((∑ c, r c * a c : ℝ) : EReal)) :
    own att xl xr al ar (ix4 h w i s) = if s.val < 19 then ((logit a l r : ℝ) : EReal) else ⊥ := by
  pointwise [own, blend]
  simp only [hatt, hl, hr, hal, har, blend_real, named_mask]
  have hc : IntOp.cmpi .slt (BitVec.ofNat 32 s.val) 19#32 = if s.val < 19 then 1#1 else 0#1 := by
    fin_cases s <;> rfl
  rw [hc]
  split <;> rfl

theorem side_at {att : FVec Ideal S8x80 .f32} {xr xs : FVec Ideal S8x10x19x80 .f32} {ar z : FVec Ideal S8x10x19 .f32}
    {a r l : Fin 80 → ℝ} (hatt : ∀ c, att (ix2 h c) = (a c : EReal)) (hl : ∀ c, xs (ix4 h w i c) = (l c : EReal))
    (hr : ∀ c, xr (ix4 h w i c) = (r c : EReal)) (hz : z (ix3 h w i) = ((∑ c, l c * a c : ℝ) : EReal))
    (har : ar (ix3 h w i) = ((∑ c, r c * a c : ℝ) : EReal)) :
    side att xr xs ar z (ix3 h w i) = ((logit a l r : ℝ) : EReal) := by
  pointwise [side, blend]
  simp only [hatt, hl, hr, hz, har, blend_real]

theorem before_at {w0 : BitVec 32} {l : FVec Ideal S8x10x19 .f32} {v : Fin 100}
    (hv : IntOp.addi (BitVec.ofNat 32 w.val) w0 = BitVec.ofNat 32 v.val) :
    before w0 l (ix3 h w i) = if 0 < v.val then l (ix3 h w i) else ⊥ := by
  pointwise [before, number]
  simp only [named_mask, hv]
  have hc : IntOp.cmpi .sgt (BitVec.ofNat 32 v.val) 0#32 = if 0 < v.val then 1#1 else 0#1 := by
    clear hv; revert v; decide
  rw [hc]
  split <;> rfl

theorem after_at {w0 : BitVec 32} {l : FVec Ideal S8x10x19 .f32} {v : Fin 100}
    (hv : IntOp.addi (BitVec.ofNat 32 w.val) w0 = BitVec.ofNat 32 v.val) :
    after w0 l (ix3 h w i) = if v.val < 99 then l (ix3 h w i) else ⊥ := by
  pointwise [after, number]
  simp only [named_mask, hv]
  have hc : IntOp.cmpi .slt (BitVec.ofNat 32 v.val) 99#32 = if v.val < 99 then 1#1 else 0#1 := by
    clear hv; revert v; decide
  rw [hc]
  split <;> rfl

theorem top_at {lo : FVec Ideal S8x10x19x24 .f32} {lm lp : FVec Ideal S8x10x19 .f32}
    (ho : ∀ s, lo (ix4 h w i s) ≠ ⊤) (hm : lm (ix3 h w i) ≠ ⊤) (hp : lp (ix3 h w i) ≠ ⊤)
    (s : Fin 24) (hs : lo (ix4 h w i s) ≠ ⊥) : ∃ m : ℝ, top lo lm lp (ix3 h w i) = (m : EReal) := by
  pointwise [top]
  rw [ofBits_neg_inf]
  refine max_real (fold_max_real _ ho s hs) ?_
  rcases max_choice (lm (ix3 h w i)) (lp (ix3 h w i)) with e | e <;> rw [e] <;> assumption

/-- A weighted mean under weights shifted by a common real, as a mean under the unshifted weights. -/
theorem mean_real {ι : Type} [Fintype ι] (f : ι → EReal) (p q : EReal) (hf : ∀ s, f s ≠ ⊤) (hp : p ≠ ⊤) (hq : q ≠ ⊤)
    (s : ι) (hs : 0 < expR (f s)) (m : ℝ) (x : ι → ℝ) (y z g : ℝ) :
    Ideal.div (∑ s, Ideal.exp (f s - m) * (x s : EReal) + Ideal.exp (p - m) * (y : EReal) + Ideal.exp (q - m) * (z : EReal))
      (∑ s, Ideal.exp (f s - m) + Ideal.exp (p - m) + Ideal.exp (q - m)) + (g : EReal)
    = (((∑ s, expR (f s) * x s + expR p * y + expR q * z) / (∑ s, expR (f s) + expR p + expR q) + g : ℝ) : EReal) := by
  have hpos : 0 < ∑ s, expR (f s) + expR p + expR q := by
    have := Finset.sum_pos' (fun s _ => expR_nonneg (f s)) ⟨s, Finset.mem_univ _, hs⟩
    have := expR_nonneg p
    have := expR_nonneg q
    linarith
  have hn : ∑ s, expR (f s) * Real.exp (-m) * x s + expR p * Real.exp (-m) * y + expR q * Real.exp (-m) * z
      = (∑ s, expR (f s) * x s + expR p * y + expR q * z) * Real.exp (-m) := by
    rw [add_mul, add_mul, Finset.sum_mul, Finset.sum_congr rfl fun s _ => mul_right_comm (expR (f s)) (Real.exp (-m)) (x s)]
    ring
  simp only [exp_sub hp, exp_sub hq, exp_sub (hf _), ← EReal.coe_mul, ← coe_sum, ← EReal.coe_add]
  rw [hn, ← Finset.sum_mul, ← add_mul, ← add_mul, div_coe_coe _ (mul_pos hpos (Real.exp_pos _)).ne', ← EReal.coe_add,
    mul_div_mul_right _ _ (Real.exp_pos _).ne']

theorem mean_at {gb : FVec Ideal S8x1x1x80 .f32} {xl : FVec Ideal S8x10x24x80 .f32} {xm xp : FVec Ideal S8x10x19x80 .f32}
    {lo : FVec Ideal S8x10x19x24 .f32} {lm lp : FVec Ideal S8x10x19 .f32} {c : Fin 80}
    (ho : ∀ s, lo (ix4 h w i s) ≠ ⊤) (hm : lm (ix3 h w i) ≠ ⊤) (hp : lp (ix3 h w i) ≠ ⊤)
    (s : Fin 24) (hs : lo (ix4 h w i s) ≠ ⊥) (hs' : 0 < expR (lo (ix4 h w i s)))
    {x : Fin 24 → ℝ} {y z g : ℝ} (hx : ∀ s, xl (ix4 h w s c) = (x s : EReal)) (hy : xm (ix4 h w i c) = (y : EReal))
    (hz : xp (ix4 h w i c) = (z : EReal)) (hg : gb (ix4 h 0 0 c) = (g : EReal)) :
    mean gb xl xm xp lo lm lp (ix4 h w i c)
    = (((∑ s, expR (lo (ix4 h w i s)) * x s + expR (lm (ix3 h w i)) * y + expR (lp (ix3 h w i)) * z)
        / (∑ s, expR (lo (ix4 h w i s)) + expR (lm (ix3 h w i)) + expR (lp (ix3 h w i))) + g : ℝ) : EReal) := by
  obtain ⟨m, em⟩ := top_at ho hm hp s hs
  pointwise [mean, spread, ownWeight]
  simp only [hx, hy, hz, hg, em]
  exact mean_real _ _ _ ho hm hp s hs' m x y z g

theorem act_at {v : FVec Ideal S8x10x19x80 .f32} {c : Fin 80} {x : ℝ} (hv : v (ix4 h w i c) = (x : EReal)) :
    act v (ix4 h w i c) = ((elu x : ℝ) : EReal) := by
  pointwise [act]
  rw [hv]
  simp only [EReal.coe_pos, Ideal.exp_coe, elu]
  split
  · rfl
  · rw [EReal.coe_sub, EReal.coe_one]

end

theorem score_at {wt : FVec Ideal S8x1x1x80 .f32} {o : FVec Ideal S8x10x19x80 .f32} {w : Fin 10} {i : Fin 19}
    {f W : Fin 8 → Fin 80 → ℝ} (hf : ∀ h c, o (ix4 h w i c) = (f h c : EReal)) (hw : ∀ h c, wt (ix4 h 0 0 c) = (W h c : EReal)) :
    score wt o (ix2 w i) = ((∑ h, ∑ c, f h c * W h c : ℝ) : EReal) := by
  pointwise [score]
  simp only [hf, hw, coe_sum, EReal.coe_mul]

/-- A sum over the padded electrodes of values that vanish on the padding. -/
theorem sum_padded (f : Fin 24 → ℝ) (g : Fin 19 → ℝ) (h : ∀ s : Fin 24, f s = if hs : s.val < 19 then g ⟨s.val, hs⟩ else 0) :
    ∑ s, f s = ∑ s, g s := by
  rw [show (∑ s, f s) = ∑ s : Fin (19 + 5), f s from rfl, Fin.sum_univ_add]
  have h1 : ∀ s : Fin 19, f (Fin.castAdd 5 s) = g s := fun s => by rw [h]; simp
  have h2 : ∀ s : Fin 5, f (Fin.natAdd 19 s) = 0 := fun s => by rw [h]; simp
  simp [h1, h2]

/-- The electrode of a padded electrode's place. -/
def slot (s : Fin 19) : Fin 24 := ⟨s.val, by omega⟩

/-- A group at a node, given what it reads: its own features at the node's window, as sources (`X`, padded) and as
    targets (`Y`), and the sources' features at the windows before and after. -/
theorem group_at {att : FVec Ideal S8x80 .f32} {gb wt : FVec Ideal S8x1x1x80 .f32} {w0 : BitVec 32}
    {xl : FVec Ideal S8x10x24x80 .f32} {xr xm xp : FVec Ideal S8x10x19x80 .f32}
    {al : FVec Ideal S8x10x24 .f32} {ar am ap : FVec Ideal S8x10x19 .f32} {w : Fin 10} {i : Fin 19} {v : Fin 100}
    {A G W : Fin 8 → Fin 80 → ℝ} {X Y : Fin 8 → Fin 100 → Fin 24 → Fin 80 → ℝ}
    (hv : IntOp.addi (BitVec.ofNat 32 w.val) w0 = BitVec.ofNat 32 v.val)
    (hatt : ∀ h c, att (ix2 h c) = (A h c : EReal)) (hgb : ∀ h c, gb (ix4 h 0 0 c) = (G h c : EReal))
    (hwt : ∀ h c, wt (ix4 h 0 0 c) = (W h c : EReal))
    (hxl : ∀ h s c, xl (ix4 h w s c) = (X h v s c : EReal)) (hxr : ∀ h c, xr (ix4 h w i c) = (Y h v (slot i) c : EReal))
    (hxm : ∀ h c, xm (ix4 h w i c) = (X h (prev v) (slot i) c : EReal))
    (hxp : ∀ h c, xp (ix4 h w i c) = (X h (next v) (slot i) c : EReal))
    (hal : ∀ h s, al (ix3 h w s) = ((∑ c, X h v s c * A h c : ℝ) : EReal))
    (har : ∀ h, ar (ix3 h w i) = ((∑ c, Y h v (slot i) c * A h c : ℝ) : EReal))
    (ham : ∀ h, am (ix3 h w i) = ((∑ c, X h (prev v) (slot i) c * A h c : ℝ) : EReal))
    (hap : ∀ h, ap (ix3 h w i) = ((∑ c, X h (next v) (slot i) c * A h c : ℝ) : EReal)) :
    group att gb wt w0 xl xr xm xp al ar am ap (ix2 w i)
    = ((Spec.score A (fun h w i c => X h w (slot i) c) (fun h w i c => Y h w (slot i) c) G W v i : ℝ) : EReal) := by
  refine score_at (fun h c => act_at ?_) hwt
  have eo : ∀ s, own att xl xr al ar (ix4 h w i s) = if s.val < 19 then ((logit (A h) (X h v s) (Y h v (slot i)) : ℝ) : EReal) else ⊥ :=
    fun s => own_at (hatt h) (hxl h s) (hxr h) (hal h s) (har h)
  have em := (before_at (h := h) (i := i) (l := side att xr xm ar am) hv).trans
    (by rw [side_at (hatt h) (hxm h) (hxr h) (ham h) (har h)])
  have ep := (after_at (h := h) (i := i) (l := side att xr xp ar ap) hv).trans
    (by rw [side_at (hatt h) (hxp h) (hxr h) (hap h) (har h)])
  rw [mean_at (x := fun s => X h v s c) (y := X h (prev v) (slot i) c) (z := X h (next v) (slot i) c) (g := G h c)
    (fun s => by rw [eo]; split <;> simp) (by rw [em]; split <;> simp) (by rw [ep]; split <;> simp) 0
    (by rw [eo]; simp) (by rw [eo]; simp [Real.exp_pos]) (fun s => hxl h s c) (hxm h c) (hxp h c) (hgb h c)]
  simp only [eo, em, ep]
  rw [sum_padded _ (fun s => Real.exp (logit (A h) (X h v (slot s)) (Y h v (slot i))) * X h v (slot s) c) (fun s => by
      split <;> simp [slot]),
    sum_padded _ (fun s => Real.exp (logit (A h) (X h v (slot s)) (Y h v (slot i)))) (fun s => by
      split <;> simp [slot])]
  have hif : ∀ (p : Prop) [Decidable p] (r : ℝ), expR (if p then (r : EReal) else ⊥) = if p then Real.exp r else 0 :=
    fun p _ r => by split <;> simp
  simp only [hif, ite_mul, zero_mul]
  rfl

end Cert.KernelIdeal.Chunk

end
-- ==== Proof.Total.lean ====
/- The kernel's window sums and its stored value over the reals, from the features the groups are cut from. -/
module

public import proofs.«01_k».proof.Proof.GroupAt
public import Idealize.ShloMosaic.Lib.Pipeline.Value

@[expose] public section

set_option maxRecDepth 16384

noncomputable section

namespace Cert.KernelIdeal.Chunk

open Idealize.ShloMosaic Idealize.ShloMosaic.TcCoe Idealize.SL.Sem Cert.KernelIdeal Cert.KernelIdeal.Gen
open Cert.Reals Cert.Spec

/-! ## Slices at a window -/

theorem cut4_at {o : ℕ} {x : FVec Ideal S8x100x24x80 .f32} (hs : S8x100x24x80.Slices ![0, o, 0, 0] S8x10x24x80) (h : Fin 8) (k : Fin 10) (s : Fin 24) (c : Fin 80)
    {v : Fin 100} (hv : v.val = o + k.val) : cut4 o x hs (ix4 h k s c) = x (ix4 h v s c) := by
  refine congrArg x (funext fun a => Fin.ext ?_)
  fin_cases a <;> simp [ix4, hv]

theorem cut3_at {o : ℕ} {x : FVec Ideal S8x100x24 .f32} (hs : S8x100x24.Slices ![0, o, 0] S8x10x24) (h : Fin 8) (k : Fin 10) (s : Fin 24)
    {v : Fin 100} (hv : v.val = o + k.val) : cut3 o x hs (ix3 h k s) = x (ix3 h v s) := by
  refine congrArg x (funext fun a => Fin.ext ?_)
  fin_cases a <;> simp [ix3, hv]

theorem cut4'_at {o : ℕ} {x : FVec Ideal S8x100x24x80 .f32} (hs : S8x100x24x80.Slices ![0, o, 0, 0] S8x10x19x80) (h : Fin 8) (k : Fin 10) (i : Fin 19) (c : Fin 80)
    {v : Fin 100} (hv : v.val = o + k.val) :
    extractStridedSlice S8x10x19x80 ![0, o, 0, 0] x hs (ix4 h k i c) = x (ix4 h v (slot i) c) := by
  refine congrArg x (funext fun a => Fin.ext ?_)
  fin_cases a <;> simp [ix4, hv, slot]

theorem cut3'_at {o : ℕ} {x : FVec Ideal S8x100x24 .f32} (hs : S8x100x24.Slices ![0, o, 0] S8x10x19) (h : Fin 8) (k : Fin 10) (i : Fin 19)
    {v : Fin 100} (hv : v.val = o + k.val) :
    extractStridedSlice S8x10x19 ![0, o, 0] x hs (ix3 h k i) = x (ix3 h v (slot i)) := by
  refine congrArg x (funext fun a => Fin.ext ?_)
  fin_cases a <;> simp [ix3, hv, slot]

theorem real4_at (x : FVec Ideal S8x10x24x80 .f32) (h : Fin 8) (k : Fin 10) (i : Fin 19) (c : Fin 80) :
    real4 x (ix4 h k i c) = x (ix4 h k (slot i) c) := by
  refine congrArg x (funext fun a => Fin.ext ?_)
  fin_cases a <;> simp [ix4, slot]

theorem real3_at (x : FVec Ideal S8x10x24 .f32) (h : Fin 8) (k : Fin 10) (i : Fin 19) :
    real3 x (ix3 h k i) = x (ix3 h k (slot i)) := by
  refine congrArg x (funext fun a => Fin.ext ?_)
  fin_cases a <;> simp [ix3, slot]

/-! ## The ten groups -/

section
variable {att : FVec Ideal S8x80 .f32} {gb wt : FVec Ideal S8x1x1x80 .f32} {xl xr : FVec Ideal S8x100x24x80 .f32}
  {al ar : FVec Ideal S8x100x24 .f32} {A G W : Fin 8 → Fin 80 → ℝ} {X Y : Fin 8 → Fin 100 → Fin 24 → Fin 80 → ℝ}

variable (att gb wt xl xr al ar A G W X Y) in
/-- What the ten groups are cut from is real: the attention, the bias, the weight, the features as sources and as
    targets, and the features' sums against the attention. -/
structure Reads : Prop where
  att : ∀ h c, att (ix2 h c) = (A h c : EReal)
  gb : ∀ h c, gb (ix4 h 0 0 c) = (G h c : EReal)
  wt : ∀ h c, wt (ix4 h 0 0 c) = (W h c : EReal)
  xl : ∀ h w s c, xl (ix4 h w s c) = (X h w s c : EReal)
  xr : ∀ h w s c, xr (ix4 h w s c) = (Y h w s c : EReal)
  al : ∀ h w s, al (ix3 h w s) = ((∑ c, X h w s c * A h c : ℝ) : EReal)
  ar : ∀ h w s, ar (ix3 h w s) = ((∑ c, Y h w s c * A h c : ℝ) : EReal)

variable (A G W X Y) in
/-- The sum of a node's features against the weight, the features padded. -/
def paddedScore (v : Fin 100) (i : Fin 19) : ℝ :=
  Spec.score A (fun h w i c => X h w (slot i) c) (fun h w i c => Y h w (slot i) c) G W v i

theorem groupAt_at (H : Reads att gb wt xl xr al ar A G W X Y) {o : ℕ} {w0 : BitVec 32}
    {h4 : S8x100x24x80.Slices ![0, o, 0, 0] S8x10x24x80} {h4' : S8x100x24x80.Slices ![0, o, 0, 0] S8x10x19x80}
    {h3 : S8x100x24.Slices ![0, o, 0] S8x10x24} {h3' : S8x100x24.Slices ![0, o, 0] S8x10x19}
    {xm xp : FVec Ideal S8x10x24x80 .f32} {am ap : FVec Ideal S8x10x24 .f32} {k : Fin 10} (i : Fin 19) {v : Fin 100}
    (hv : v.val = o + k.val) (hw : w0 = BitVec.ofNat 32 o)
    (hxm : ∀ h s c, xm (ix4 h k s c) = xl (ix4 h (prev v) s c)) (hxp : ∀ h s c, xp (ix4 h k s c) = xl (ix4 h (next v) s c))
    (ham : ∀ h s, am (ix3 h k s) = al (ix3 h (prev v) s)) (hap : ∀ h s, ap (ix3 h k s) = al (ix3 h (next v) s)) :
    groupAt att gb wt xl xr al ar o w0 h4 h4' h3 h3' xm xp am ap (ix2 k i) = ((paddedScore A G W X Y v i : ℝ) : EReal) := by
  refine group_at (v := v) ?_ H.att H.gb H.wt ?_ ?_ ?_ ?_ ?_ ?_ ?_ ?_
  · rw [hw, hv, IntOp.addi, ← BitVec.ofNat_add, Nat.add_comm]
  · exact fun h s c => by rw [cut4_at h4 h k s c hv, H.xl]
  · exact fun h c => by rw [cut4'_at h4' h k i c hv, H.xr]
  · exact fun h c => by rw [real4_at, hxm, H.xl]
  · exact fun h c => by rw [real4_at, hxp, H.xl]
  · exact fun h s => by rw [cut3_at h3 h k s hv, H.al]
  · exact fun h => by rw [cut3'_at h3' h k i hv, H.ar]
  · exact fun h => by rw [real3_at, ham, H.al]
  · exact fun h => by rw [real3_at, hap, H.al]

theorem inner_at (H : Reads att gb wt xl xr al ar A G W X Y) {o m p : ℕ} (hm : m ≤ 90) (ho : o ≤ 90) (hp : p ≤ 90)
    (h1 : m + 1 = o) (h2 : o + 1 = p) (k : Fin 10) (i : Fin 19) {v : Fin 100} (hv : v.val = o + k.val) :
    inner att gb wt xl xr al ar o m p hm ho hp (ix2 k i) = ((paddedScore A G W X Y v i : ℝ) : EReal) := by
  have e1 : (prev v).val = m + k.val := by simp only [prev]; omega
  have e2 : (next v).val = p + k.val := by simp only [next]; omega
  exact groupAt_at H i hv rfl (fun h s c => cut4_at _ h k s c e1) (fun h s c => cut4_at _ h k s c e2)
    (fun h s => cut3_at _ h k s e1) (fun h s => cut3_at _ h k s e2)

theorem first_at (H : Reads att gb wt xl xr al ar A G W X Y) (k : Fin 10) (i : Fin 19) {v : Fin 100} (hv : v.val = 0 + k.val) :
    first att gb wt xl xr al ar (ix2 k i) = ((paddedScore A G W X Y v i : ℝ) : EReal) := by
  have e2 : (next v).val = 1 + k.val := by simp only [next]; omega
  refine groupAt_at H i hv rfl (fun h s c => ?_) (fun h s c => cut4_at _ h k s c e2) (fun h s => ?_) (fun h s => cut3_at _ h k s e2)
  · pointwise []
    split <;> exact congrArg xl (by congr 1; ext; simp only [prev]; omega)
  · pointwise []
    split <;> exact congrArg al (by congr 1; ext; simp only [prev]; omega)

theorem last_at (H : Reads att gb wt xl xr al ar A G W X Y) (k : Fin 10) (i : Fin 19) {v : Fin 100} (hv : v.val = 90 + k.val) :
    last att gb wt xl xr al ar (ix2 k i) = ((paddedScore A G W X Y v i : ℝ) : EReal) := by
  have e1 : (prev v).val = 89 + k.val := by simp only [prev]; omega
  refine groupAt_at H i hv rfl (fun h s c => cut4_at _ h k s c e1) (fun h s c => ?_) (fun h s => cut3_at _ h k s e1) (fun h s => ?_)
  · pointwise []
    split <;> exact congrArg xl (by congr 1; ext; simp only [next]; omega)
  · pointwise []
    split <;> exact congrArg al (by congr 1; ext; simp only [next]; omega)

theorem total_at (H : Reads att gb wt xl xr al ar A G W X Y) (v : Fin 100) (i : Fin 19) :
    total att gb wt xl xr al ar (ix2 v i) = ((paddedScore A G W X Y v i : ℝ) : EReal) := by
  let f : Fin 10 → FVec Ideal S10x19 .f32 :=
    ![first att gb wt xl xr al ar, inner att gb wt xl xr al ar 10 9 11 (by omega) (by omega) (by omega),
      inner att gb wt xl xr al ar 20 19 21 (by omega) (by omega) (by omega), inner att gb wt xl xr al ar 30 29 31 (by omega) (by omega) (by omega),
      inner att gb wt xl xr al ar 40 39 41 (by omega) (by omega) (by omega), inner att gb wt xl xr al ar 50 49 51 (by omega) (by omega) (by omega),
      inner att gb wt xl xr al ar 60 59 61 (by omega) (by omega) (by omega), inner att gb wt xl xr al ar 70 69 71 (by omega) (by omega) (by omega),
      inner att gb wt xl xr al ar 80 79 81 (by omega) (by omega) (by omega), last att gb wt xl xr al ar]
  have hf : ∀ (n k : Fin 10), v.val = 10 * n.val + k.val → f n (ix2 k i) = ((paddedScore A G W X Y v i : ℝ) : EReal) := by
    intro n k hv
    fin_cases n
    · exact first_at H k i hv
    on_goal 9 => exact last_at H k i hv
    all_goals exact inner_at H (by omega) (by omega) (by omega) (by omega) (by omega) k i hv
  refine Eq.trans ?_ (hf ⟨v.val / 10, by omega⟩ ⟨v.val % 10, by omega⟩ (by simp only; omega))
  refine concatenate_ofFn_apply (t := S100x19) (s₁ := S10x19) (0 : Fin 2) f _ rfl 10 rfl (ix2 v i) ⟨v.val / 10, by omega⟩ rfl _ rfl fun b hb => ?_
  fin_cases b
  · exact absurd rfl hb
  · rfl

end

/-! ## The stored value -/

/-- A softmax-weighted mean over a finite set: the largest logit drops out. -/
theorem softmax_mean {ι : Type} [Fintype ι] [Nonempty ι] (p q : ι → ℝ) (m b : ℝ) :
    Ideal.div (∑ k, Ideal.exp ((p k : EReal) - m) * (q k : EReal)) (∑ k, Ideal.exp ((p k : EReal) - m)) + (b : EReal)
    = (((∑ k, Real.exp (p k) * q k) / (∑ k, Real.exp (p k)) + b : ℝ) : EReal) := by
  have hpos : 0 < ∑ k, Real.exp (p k) := Finset.sum_pos (fun k _ => Real.exp_pos _) Finset.univ_nonempty
  simp only [exp_sub (EReal.coe_ne_top _), expR_coe, ← EReal.coe_mul, ← coe_sum]
  rw [Finset.sum_congr rfl fun k _ => mul_right_comm (Real.exp (p k)) (Real.exp (-m)) (q k), ← Finset.sum_mul, ← Finset.sum_mul,
    div_coe_coe _ (mul_pos hpos (Real.exp_pos _)).ne', mul_div_mul_right _ _ (Real.exp_pos _).ne', ← EReal.coe_add]

theorem closing_at {sp sf : FVec Ideal S100x19 .f32} {b : FVec Ideal S1x1 .f32} {P V : Fin 100 → Fin 19 → ℝ} {β : ℝ}
    (hp : ∀ v i, sp (ix2 v i) = (P v i : EReal)) (hf : ∀ v i, sf (ix2 v i) = (V v i : EReal)) (hb : b (ix2 0 0) = (β : EReal)) :
    closing sp sf b (ix3 0 0 0)
    = (((∑ v, ∑ i, Real.exp (P v i) * V v i) / (∑ v, ∑ i, Real.exp (P v i)) + β : ℝ) : EReal) := by
  pointwise [closing, sumAll, nodeWeight]
  simp only [hp, hf, hb]
  obtain ⟨m, em⟩ := fold_max_real (fun x : Fin 100 × Fin 19 => (P x.1 x.2 : EReal)) (fun _ => EReal.coe_ne_top _) (0, 0)
    (EReal.coe_ne_bot _)
  rw [ofBits_neg_inf, em]
  have h := softmax_mean (fun x : Fin 100 × Fin 19 => P x.1 x.2) (fun x => V x.1 x.2) m β
  simpa only [Fintype.sum_prod_type] using h

end Cert.KernelIdeal.Chunk

end
-- ==== Proof.Entry.lean ====
/- The kernel's result array over the reals: the host's reshapes, the blocks the grid's points read, the features the
   body computes from them, and the block each point writes back. -/
module

public import proofs.«01_k».proof.Proof.Total
public import proofs.«01_k».proof.Proof.Gen.KernelIdeal.Value
public import Idealize.ShloMosaic.Lib.Claim

@[expose] public section

set_option maxRecDepth 16384

noncomputable section

namespace Cert.KernelIdeal.Chunk

open Idealize.ShloMosaic Idealize.ShloMosaic.TcCoe Idealize.SL.Sem Cert.KernelIdeal Cert.KernelIdeal.Gen
open Cert.Reals Cert.Spec

/-! ## The features the body computes -/

section
variable {F : FTy → Type} [FloatOps F] [Named F]
variable (x0 : Vec F S1x2400x128 .f32) (x1 x2 : Vec F S128x640 .bf16) (x3 x4 x5 x6 x7 x8 : Vec F S8x80 .f32) (x9 : Vec F S1x1 .f32)

theorem zero2 : (![0, 0] : Fin 2 → ℕ) = fun _ => 0 := funext fun a => by fin_cases a <;> rfl
theorem zero3 : (![0, 0, 0] : Fin 3 → ℕ) = fun _ => 0 := funext fun a => by fin_cases a <;> rfl

theorem ld_nodes (x : Vec F S1x2400x128 .f32) : View.ld x r0_0 = x := View.ld_unit_zero zero3 ..
theorem ld_matrix (x : Vec F S128x640 .bf16) : View.ld x r0_1 = x := View.ld_unit_zero zero2 ..
theorem ld_heads (x : Vec F S8x80 .f32) : View.ld x r0_2 = x := View.ld_unit_zero zero2 ..
theorem ld_one (x : Vec F S1x1 .f32) : View.ld x r0_3 = x := View.ld_unit_zero zero2 ..

/-- The features as sources and as targets are one function of the nodes, a matrix and a bias; the sums against the
    attention another, of the attention and the features. -/
theorem sums_eq (w : FVec F S8x1x1x80 .f32) : sums x0 x1 x2 x3 x4 x5 x6 x7 x8 x9 w
    = total x5 (k0_pay16 x6) w (k0_pay14 (k0_pay5 x0 x1 x3)) (k0_pay14 (k0_pay5 x0 x2 x4))
        (k0_pay19 x5 (k0_pay5 x0 x1 x3)) (k0_pay19 x5 (k0_pay5 x0 x2 x4)) := by
  have e : sums x0 x1 x2 x3 x4 x5 x6 x7 x8 x9 w
    = total (View.ld x5 r0_2) (k0_pay16 (View.ld x6 r0_2)) w (k0_pay14 (k0_pay5 (View.ld x0 r0_0) (View.ld x1 r0_1) (View.ld x3 r0_2)))
        (k0_pay14 (k0_pay5 (View.ld x0 r0_0) (View.ld x2 r0_1) (View.ld x4 r0_2)))
        (k0_pay19 (View.ld x5 r0_2) (k0_pay5 (View.ld x0 r0_0) (View.ld x1 r0_1) (View.ld x3 r0_2)))
        (k0_pay19 (View.ld x5 r0_2) (k0_pay5 (View.ld x0 r0_0) (View.ld x2 r0_1) (View.ld x4 r0_2))) := rfl
  rw [e, ld_nodes, ld_matrix, ld_matrix, ld_heads, ld_heads, ld_heads, ld_heads]

/-- What the body leaves in the result's block, from the contents of the blocks it reads. -/
theorem out_eq_closing : out0_10 x0 x1 x2 x3 x4 x5 x6 x7 x8 x9
    = closing (sums x0 x1 x2 x3 x4 x5 x6 x7 x8 x9 (k0_pay16 x7)) (sums x0 x1 x2 x3 x4 x5 x6 x7 x8 x9 (k0_pay16 x8)) x9 := by
  have e : out0_10 x0 x1 x2 x3 x4 x5 x6 x7 x8 x9 = View.canon [⟨r0_4,
      closing (sums x0 x1 x2 x3 x4 x5 x6 x7 x8 x9 (k0_pay16 (View.ld x7 r0_2)))
        (sums x0 x1 x2 x3 x4 x5 x6 x7 x8 x9 (k0_pay16 (View.ld x8 r0_2))) (View.ld x9 r0_3)⟩] := out_eq ..
  rw [e, View.canon_unit_zero zero3, ld_heads, ld_heads, ld_one]

end

theorem features_at {v0 : FVec Ideal S1x2400x128 .f32} {w : FVec Ideal S128x640 .bf16} {b : FVec Ideal S8x80 .f32}
    {n : Fin 100 → Fin 24 → Fin 128 → ℝ} {W : Fin 640 → Fin 128 → ℝ} {B : Fin 640 → ℝ}
    (h0 : ∀ v s k, v0 (ix3 0 ⟨v.val * 24 + s.val, by omega⟩ k) = (n v s k : EReal)) (hw : ∀ j k, w (ix2 k j) = (W j k : EReal))
    (hb : ∀ h c, b (ix2 h c) = (heads B h c : EReal)) (h : Fin 8) (v : Fin 100) (s : Fin 24) (c : Fin 80) :
    k0_pay14 (F := Ideal) (k0_pay5 v0 w b) (ix4 h v s c) = ((project W B (n v s) h c : ℝ) : EReal) := by
  rw [project, EReal.coe_add, coe_sum]
  simp only [EReal.coe_mul]
  pointwise [k0_pay14, k0_pay5, k0_pay3]
  simp only [h0, hw, hb, heads]
  congr 1
  fin_vals h with hk
  all_goals simp only [hk, Nat.reduceSub, Nat.reduceLT, ↓reduceDIte]
  all_goals
    refine Finset.sum_congr rfl fun k _ => congrArg (fun j => (n v s k : EReal) * (W j k : EReal)) (Fin.ext ?_)
    simp only [col, hk] <;> omega

theorem against_at {v : FVec Ideal S8x80 .f32} {f : FVec Ideal S8x2400x80 .f32} {A : Fin 8 → Fin 80 → ℝ} {X : Fin 8 → Fin 100 → Fin 24 → Fin 80 → ℝ}
    (hv : ∀ h c, v (ix2 h c) = (A h c : EReal)) (hf : ∀ h w s c, k0_pay14 (F := Ideal) f (ix4 h w s c) = (X h w s c : EReal))
    (h : Fin 8) (w : Fin 100) (s : Fin 24) : k0_pay19 (F := Ideal) v f (ix3 h w s) = ((∑ c, X h w s c * A h c : ℝ) : EReal) := by
  pointwise [k0_pay19]
  simp only [hv, hf, coe_sum, EReal.coe_mul]

theorem heads_at {v : FVec Ideal S8x80 .f32} (h : Fin 8) (c : Fin 80) : k0_pay16 (F := Ideal) v (ix4 h 0 0 c) = v (ix2 h c) := by
  pointwise [k0_pay16]

/-! ## The arrays the region finds -/

section
variable {F : FTy → Type} [FloatOps F] [Named F]
variable (m : (ℓ : Loc nD τ sig) → Buf (Elt F) ℓ)

theorem V_nodes (c : Dev nD) : V m c main_v2 = shapeCast S4x2400x128
    (pad S4x100x24x128 ![0, 0, 0, 0] ![0, 0, 5, 0] ![0, 0, 0, 0]
      (transpose S4x100x19x128 [0, 1, 3, 2] (m ((c : Thread nD τ).loc main_arg0)) transposes_S4x100x128x19_S4x100x19x128_0_1_3_2)
      (sitofp .f32 (constantI S_ 32 0#32)) pads_S4x100x19x128_S4x100x24x128_000_000_050_000 h_S_)
    shapeCasts_S4x100x24x128_S4x2400x128 := by
  unfold V
  simp only [hostOps0, hostOps0_1, hostOps0_2, List.flatten_cons, List.flatten_nil, List.append_nil, List.cons_append, List.nil_append]
  after_results
  rfl

theorem V_wl (c : Dev nD) : V m c main_v4
    = truncf .bf16 (transpose S128x640 [1, 0] (m ((c : Thread nD τ).loc main_arg1)) transposes_S640x128_S128x640_1_0) bitsLt_bf16_f32 := by
  unfold V
  simp only [hostOps0, hostOps0_1, hostOps0_2, List.flatten_cons, List.flatten_nil, List.append_nil, List.cons_append, List.nil_append]
  after_results

theorem V_wr (c : Dev nD) : V m c main_v6
    = truncf .bf16 (transpose S128x640 [1, 0] (m ((c : Thread nD τ).loc main_arg3)) transposes_S640x128_S128x640_1_0) bitsLt_bf16_f32 := by
  unfold V
  simp only [hostOps0, hostOps0_1, hostOps0_2, List.flatten_cons, List.flatten_nil, List.append_nil, List.cons_append, List.nil_append]
  after_results

/-- The arguments the host only reshapes. -/
theorem V_reshaped (c : Dev nD) :
    V m c main_v7 = shapeCast S8x80 (m ((c : Thread nD τ).loc main_arg2)) shapeCasts_S640_S8x80
    ∧ V m c main_v8 = shapeCast S8x80 (m ((c : Thread nD τ).loc main_arg4)) shapeCasts_S640_S8x80
    ∧ V m c main_v9 = shapeCast S8x80 (m ((c : Thread nD τ).loc main_arg6)) shapeCasts_S640_S8x80
    ∧ V m c main_v10 = shapeCast S8x80 (m ((c : Thread nD τ).loc main_arg7)) shapeCasts_S1x640_S8x80
    ∧ V m c main_v11 = shapeCast S8x80 (m ((c : Thread nD τ).loc main_arg9)) shapeCasts_S1x640_S8x80
    ∧ V m c main_v12 = shapeCast S1x1 (m ((c : Thread nD τ).loc main_arg10)) shapeCasts_S1_S1x1 := by
  unfold V
  simp only [hostOps0, hostOps0_1, hostOps0_2, List.flatten_cons, List.flatten_nil, List.append_nil, List.cons_append, List.nil_append]
  refine ⟨?_, ?_, ?_, ?_, ?_, ?_⟩ <;> (after_results; rfl)

end

end Cert.KernelIdeal.Chunk

end
-- ==== Proof.Result.lean ====
/- The kernel's result array over the reals: every point's block of the nodes, and the run with its result named. -/
module

public import proofs.«01_k».proof.Proof.Entry

@[expose] public section

set_option maxRecDepth 16384

noncomputable section

namespace Cert.KernelIdeal.Chunk

open Idealize.ShloMosaic Idealize.ShloMosaic.TcCoe Idealize.SL.Sem Cert.KernelIdeal Cert.KernelIdeal.Gen Cert.KernelIdeal.Value
open Cert.Reals Cert.Spec

/-! ## The blocks -/

section
variable {F : FTy → Type} [FloatOps F] [Named F]
variable (m : (ℓ : Loc nD τ sig) → Buf (Elt F) ℓ)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

/-- The graph a grid point works on. -/
def graph (t : Fin cfg0.N) : Fin 4 := ⟨t.val, lt_of_lt_of_eq t.isLt (by decide)⟩

theorem block_nodes (c : Dev nD) (t : Fin cfg0.N) (r : Fin 2400) (k : Fin 128) :
    iblk m c 0 t (ix3 0 r k) = V m c main_v2 (ix3 (graph t) r k) := by
  obtain ⟨e0, e1, e2⟩ := idx0 t
  show V m c main_v2 (((cfg0.win 0).blk t).view.emb (ix3 0 r k)) = _
  refine congrArg (V m c main_v2) (funext fun a => Fin.ext ?_)
  match a with
  | ⟨0, _⟩ => show win0_0.index t (0 : Fin 3) * 1 + 1 * 0 = t.val; omega
  | ⟨1, _⟩ => show win0_0.index t (1 : Fin 3) * 2400 + 1 * r.val = r.val; omega
  | ⟨2, _⟩ => show win0_0.index t (2 : Fin 3) * 128 + 1 * k.val = k.val; omega

theorem at_zero {n i a : ℕ} (h : i = 0) : i * n + 1 * a = a := by rw [h]; omega

/-- The other windows' blocks are their arrays. -/
theorem block_whole (c : Dev nD) (t : Fin cfg0.N) :
    iblk m c 1 t = V m c main_v4 ∧ iblk m c 2 t = V m c main_v6 ∧ iblk m c 3 t = V m c main_v7 ∧ iblk m c 4 t = V m c main_v8
    ∧ iblk m c 5 t = V m c main_arg5 ∧ iblk m c 6 t = V m c main_v9 ∧ iblk m c 7 t = V m c main_v10 ∧ iblk m c 8 t = V m c main_v11
    ∧ iblk m c 9 t = V m c main_v12 := by
  obtain ⟨h1, h2, h3, h4, h5, h6, h7, h8, h9⟩ := idx_whole t
  refine ⟨?_, ?_, ?_, ?_, ?_, ?_, ?_, ?_, ?_⟩
  · exact funext fun j => congrArg (V m c main_v4) (funext fun a => Fin.ext (by
      match a with | ⟨0, _⟩ => exact at_zero h1.1 | ⟨1, _⟩ => exact at_zero h1.2))
  · exact funext fun j => congrArg (V m c main_v6) (funext fun a => Fin.ext (by
      match a with | ⟨0, _⟩ => exact at_zero h2.1 | ⟨1, _⟩ => exact at_zero h2.2))
  · exact funext fun j => congrArg (V m c main_v7) (funext fun a => Fin.ext (by
      match a with | ⟨0, _⟩ => exact at_zero h3.1 | ⟨1, _⟩ => exact at_zero h3.2))
  · exact funext fun j => congrArg (V m c main_v8) (funext fun a => Fin.ext (by
      match a with | ⟨0, _⟩ => exact at_zero h4.1 | ⟨1, _⟩ => exact at_zero h4.2))
  · exact funext fun j => congrArg (V m c main_arg5) (funext fun a => Fin.ext (by
      match a with | ⟨0, _⟩ => exact at_zero h5.1 | ⟨1, _⟩ => exact at_zero h5.2))
  · exact funext fun j => congrArg (V m c main_v9) (funext fun a => Fin.ext (by
      match a with | ⟨0, _⟩ => exact at_zero h6.1 | ⟨1, _⟩ => exact at_zero h6.2))
  · exact funext fun j => congrArg (V m c main_v10) (funext fun a => Fin.ext (by
      match a with | ⟨0, _⟩ => exact at_zero h7.1 | ⟨1, _⟩ => exact at_zero h7.2))
  · exact funext fun j => congrArg (V m c main_v11) (funext fun a => Fin.ext (by
      match a with | ⟨0, _⟩ => exact at_zero h8.1 | ⟨1, _⟩ => exact at_zero h8.2))
  · exact funext fun j => congrArg (V m c main_v12) (funext fun a => Fin.ext (by
      match a with | ⟨0, _⟩ => exact at_zero h9.1 | ⟨1, _⟩ => exact at_zero h9.2))

end

/-! ## The arguments as reals -/

/-- The float arguments are the coercions of real ones. -/
structure Holds (I : Inputs) (a0 : FVec Ideal S4x100x128x19 .f32) (a1 : FVec Ideal S640x128 .f32) (a2 : FVec Ideal S640 .f32)
    (a3 : FVec Ideal S640x128 .f32) (a4 : FVec Ideal S640 .f32) (a5 : FVec Ideal S8x80 .f32) (a6 : FVec Ideal S640 .f32)
    (a7 : FVec Ideal S1x640 .f32) (a8 : FVec Ideal S1 .f32) (a9 : FVec Ideal S1x640 .f32) (a10 : FVec Ideal S1 .f32) : Prop where
  x : ∀ b w k i, a0 (ix4 b w k i) = (I.x b w k i : EReal)
  wl : ∀ j k, a1 (ix2 j k) = (I.wl j k : EReal)
  bl : ∀ j, a2 (ix1 j) = (I.bl j : EReal)
  wr : ∀ j k, a3 (ix2 j k) = (I.wr j k : EReal)
  br : ∀ j, a4 (ix1 j) = (I.br j : EReal)
  att : ∀ h c, a5 (ix2 h c) = (I.att h c : EReal)
  bias : ∀ j, a6 (ix1 j) = (I.bias j : EReal)
  pool : ∀ j, a7 (ix2 0 j) = (I.pool j : EReal)
  bpool : a8 (ix1 0) = (I.bpool : EReal)
  fc : ∀ j, a9 (ix2 0 j) = (I.fc j : EReal)
  bfc : a10 (ix1 0) = (I.bfc : EReal)

theorem vector_at {a : FVec Ideal S640 .f32} {f : Fin 640 → ℝ} (ha : ∀ j, a (ix1 j) = (f j : EReal)) (h : Fin 8) (c : Fin 80) :
    shapeCast S8x80 a shapeCasts_S640_S8x80 (ix2 h c) = (heads f h c : EReal) := by
  pointwise []
  exact ha (col h c)

theorem row_at {a : FVec Ideal S1x640 .f32} {f : Fin 640 → ℝ} (ha : ∀ j, a (ix2 0 j) = (f j : EReal)) (h : Fin 8) (c : Fin 80) :
    shapeCast S8x80 a shapeCasts_S1x640_S8x80 (ix2 h c) = (heads f h c : EReal) := by
  pointwise []
  exact ha (col h c)

theorem matrix_at {a : FVec Ideal S640x128 .f32} {f : Fin 640 → Fin 128 → ℝ} (ha : ∀ j k, a (ix2 j k) = (f j k : EReal)) (j : Fin 640) (k : Fin 128) :
    truncf .bf16 (transpose S128x640 [1, 0] a transposes_S640x128_S128x640_1_0) bitsLt_bf16_f32 (ix2 k j) = (f j k : EReal) := by
  pointwise []
  exact ha j k

/-- The nodes of graph `b`, the padded electrodes zero. -/
def padded (I : Inputs) (b : Fin 4) (w : Fin 100) (s : Fin 24) (k : Fin 128) : ℝ := if hs : s.val < 19 then I.x b w k ⟨s.val, hs⟩ else 0

theorem nodes_at {a : FVec Ideal S4x100x128x19 .f32} {I : Inputs} (ha : ∀ b w k i, a (ix4 b w k i) = (I.x b w k i : EReal))
    (b : Fin 4) (w : Fin 100) (s : Fin 24) (k : Fin 128) :
    shapeCast S4x2400x128 (Idealize.ShloMosaic.pad S4x100x24x128 ![0, 0, 0, 0] ![0, 0, 5, 0] ![0, 0, 0, 0]
      (transpose S4x100x19x128 [0, 1, 3, 2] a transposes_S4x100x128x19_S4x100x19x128_0_1_3_2)
      (sitofp .f32 (constantI S_ 32 0#32) : FVec Ideal S_ .f32) pads_S4x100x19x128_S4x100x24x128_000_000_050_000 h_S_)
      shapeCasts_S4x100x24x128_S4x2400x128 (ix3 b ⟨w.val * 24 + s.val, by omega⟩ k) = (padded I b w s k : EReal) := by
  have h := ha b w k
  pointwise []
  rw [padded]
  split
  · rw [h]
  · simp [FloatOps.sitofp]

/-! ## A point's block, and the array -/

variable (m : (ℓ : Loc nD τ sig) → Buf (Elt Ideal) ℓ)

/-- The launch's float arguments on core `c` are the coercions of `I`. -/
abbrev HoldsAt (I : Inputs) (c : Dev nD) : Prop :=
  Holds I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem padded_slot (I : Inputs) (b : Fin 4) (w : Fin 100) (i : Fin 19) : padded I b w (slot i) = fun k => I.x b w k i := by
  funext k
  simp [padded, slot]

/-- The body's stored value, from blocks that hold real arguments. -/
theorem out_at {x0 : FVec Ideal S1x2400x128 .f32} {x1 x2 : FVec Ideal S128x640 .bf16} {x3 x4 x5 x6 x7 x8 : FVec Ideal S8x80 .f32}
    {x9 : FVec Ideal S1x1 .f32} {I : Inputs} {b : Fin 4}
    (h0 : ∀ v s k, x0 (ix3 0 ⟨v.val * 24 + s.val, by omega⟩ k) = (padded I b v s k : EReal))
    (h1 : ∀ j k, x1 (ix2 k j) = (I.wl j k : EReal)) (h2 : ∀ j k, x2 (ix2 k j) = (I.wr j k : EReal))
    (h3 : ∀ h c, x3 (ix2 h c) = (heads I.bl h c : EReal)) (h4 : ∀ h c, x4 (ix2 h c) = (heads I.br h c : EReal))
    (h5 : ∀ h c, x5 (ix2 h c) = (I.att h c : EReal)) (h6 : ∀ h c, x6 (ix2 h c) = (heads I.bias h c : EReal))
    (h7 : ∀ h c, x7 (ix2 h c) = (heads I.pool h c : EReal)) (h8 : ∀ h c, x8 (ix2 h c) = (heads I.fc h c : EReal))
    (h9 : x9 (ix2 0 0) = (I.bfc : EReal)) :
    out0_10 (F := Ideal) x0 x1 x2 x3 x4 x5 x6 x7 x8 x9 (ix3 0 0 0) = (I.value b : EReal) := by
  have hl := features_at h0 h1 h3
  have hr := features_at h0 h2 h4
  have H : ∀ {w : FVec Ideal S8x80 .f32} {W : Fin 8 → Fin 80 → ℝ}, (∀ h c, w (ix2 h c) = (W h c : EReal)) →
      ∀ v i, sums (F := Ideal) x0 x1 x2 x3 x4 x5 x6 x7 x8 x9 (k0_pay16 w) (ix2 v i)
        = ((Spec.score I.att (I.left b) (I.right b) (heads I.bias) W v i : ℝ) : EReal) := by
    intro w W hw v i
    rw [sums_eq, total_at (A := I.att) (G := heads I.bias) (W := W) (X := fun h v s c => project I.wl I.bl (padded I b v s) h c)
      (Y := fun h v s c => project I.wr I.br (padded I b v s) h c)
      ⟨h5, fun h c => (heads_at h c).trans (h6 h c), fun h c => (heads_at h c).trans (hw h c), hl, hr, against_at h5 hl, against_at h5 hr⟩ v i]
    simp only [paddedScore, padded_slot]
    rfl
  rw [out_eq_closing, closing_at (H h7) (H h8) h9]
  rfl

/-- The result array after the run: every graph's value. -/
def values (I : Inputs) : FVec Ideal S4x1x1 .f32 := fun i => (I.value (i 0) : EReal)

theorem flushed_eq {I : Inputs} {c : Dev nD} (H : HoldsAt m I c) (t : Fin cfg0.N) :
    (dats m 0 c).flushed 10 t = ((cfg0.win 10).blk t).view.read (Elt Ideal) (values I) := by
  obtain ⟨e1, e2, e3, e4, e5, e6, e7, e8, e9⟩ := block_whole m c t
  obtain ⟨r7, r8, r9, r10, r11, r12⟩ := V_reshaped m c
  obtain ⟨i0, i1, i2⟩ := idx10 t
  rw [flushed10]
  funext j
  have hj : j = ix3 0 0 0 := funext fun a => Fin.ext (by
    match a with
    | ⟨0, _⟩ => exact Nat.lt_one_iff.mp (j 0).isLt
    | ⟨1, _⟩ => exact Nat.lt_one_iff.mp (j 1).isLt
    | ⟨2, _⟩ => exact Nat.lt_one_iff.mp (j 2).isLt)
  subst hj
  refine Eq.trans (b := ((I.value (graph t) : ℝ) : EReal)) ?_ ?_
  · refine out_at ?_ ?_ ?_ ?_ ?_ ?_ ?_ ?_ ?_ ?_
    · exact fun v s k => by rw [block_nodes, V_nodes]; exact nodes_at H.x _ v s k
    · exact fun j k => by rw [e1, V_wl]; exact matrix_at H.wl j k
    · exact fun j k => by rw [e2, V_wr]; exact matrix_at H.wr j k
    · exact fun h k => by rw [e3, r7]; exact vector_at H.bl h k
    · exact fun h k => by rw [e4, r8]; exact vector_at H.br h k
    · exact fun h k => by rw [e5, V_main_arg5]; exact H.att h k
    · exact fun h k => by rw [e6, r9]; exact vector_at H.bias h k
    · exact fun h k => by rw [e7, r10]; exact row_at H.pool h k
    · exact fun h k => by rw [e8, r11]; exact row_at H.fc h k
    · rw [e9, r12]
      refine Eq.trans ?_ H.bfc
      pointwise []
  · show _ = values I (((cfg0.win 10).blk t).view.emb (ix3 0 0 0))
    refine congrArg (fun b => ((I.value b : ℝ) : EReal)) (Fin.ext ?_)
    show t.val = win0_10.index t (0 : Fin 3) * 1 + 1 * 0
    omega

theorem covered (i : S4x1x1.Idx) : ∃ t : Fin cfg0.N, (cfg0.win 10).flush t = true ∧ i ∈ ((cfg0.win 10).blk t).view.set := by
  have hN : cfg0.N = 4 := by decide
  obtain ⟨t, ht⟩ : ∃ t : Fin cfg0.N, t.val = (i 0).val := ⟨⟨(i 0).val, by rw [hN]; exact (i 0).isLt⟩, rfl⟩
  refine ⟨t, flush0_10 _, ?_⟩
  have h := ((cfg0.win 10).blk t).view.emb_mem_set (ix3 0 0 0)
  obtain ⟨i0, i1, i2⟩ := idx10 t
  have e : ((cfg0.win 10).blk t).view.emb (ix3 0 0 0) = i := funext fun a => Fin.ext (by
    match a with
    | ⟨0, _⟩ => show win0_10.index t (0 : Fin 3) * 1 + 1 * 0 = (i 0).val; omega
    | ⟨1, _⟩ =>
      have : (i 1).val < 1 := (i 1).isLt
      show win0_10.index t (1 : Fin 3) * 1 + 1 * 0 = (i 1).val; omega
    | ⟨2, _⟩ =>
      have : (i 2).val < 1 := (i 2).isLt
      show win0_10.index t (2 : Fin 3) * 1 + 1 * 0 = (i 2).val; omega)
  rwa [e] at h

/-- The result array after the run. -/
theorem final {I : Inputs} {c : Dev nD} (H : HoldsAt m I c) : (dats m 0 c).arrAt 10 cfg0.N = values I :=
  (dats m 0 c).arrAt_eq_of_cover 10 (values I) (fun t _ => flushed_eq m H t) covered

end Cert.KernelIdeal.Chunk

end
-- ==== Proof.RefOps.lean ====
/- The reference's gathers and accumulating scatters read at an index: a gather by node numbers reads the named node's row,
   a scatter sums the rows of the edges that name the node. -/
module

public import proofs.«01_k».proof.Proof.Gen.ReferenceIdeal
public import Idealize.ShloMosaic.Lib.Pointwise
public import Idealize.ShloMosaic.Lib.Routing.OpsPair

@[expose] public section

set_option maxRecDepth 16384

noncomputable section

namespace Cert.ReferenceIdeal.Ops

open Idealize.ShloMosaic Idealize.ShloMosaic.Routing Cert.ReferenceIdeal Cert.ReferenceIdeal.Gen

/-- A gather of whole node rows by node number, for features of eight heads of eighty channels. -/
theorem gather_features {α : Type} (x : S4x1900x8x80.Idx → α) (idx : IVec S39862x1 32) (b : Fin 4) (e : Fin 39862) (h : Fin 8)
    (c : Fin 80) (n : Fin 1900) (hn : (idx (ix2 e (0 : Fin 1))).toInt = (n.val : Int)) :
    Host.gather gather_S4x1900x8x80_S39862x1_S4x39862x8x80_023_1_n_n_1_1_41880 x idx (ix4 b e h c) = x (ix4 b n h c) := by
  unfold Host.gather
  refine congrArg x (funext fun a => Fin.ext ?_)
  fin_cases a
  · exact Nat.zero_add _
  · have hs : GatherDims.siIdx gather_S4x1900x8x80_S39862x1_S4x39862x8x80_023_1_n_n_1_1_41880 (ix4 b e h c) ⟨0, by decide⟩ = ix2 e (0 : Fin 1) := by
      funext q; fin_cases q <;> rfl
    have : GatherDims.start gather_S4x1900x8x80_S39862x1_S4x39862x8x80_023_1_n_n_1_1_41880 (ix4 b e h c) idx (1 : Fin 4) = n.val := by
      refine Eq.trans (b := min (idx (ix2 e (0 : Fin 1))).toInt.toNat 1899) (by rw [← hs]; rfl) ?_
      rw [hn]; omega
    exact this
  · exact Nat.zero_add _
  · exact Nat.zero_add _

/-- A gather of whole node rows by node number, for one number per head. -/
theorem gather_heads {α : Type} (x : S4x1900x8.Idx → α) (idx : IVec S39862x1 32) (b : Fin 4) (e : Fin 39862) (h : Fin 8)
    (n : Fin 1900) (hn : (idx (ix2 e (0 : Fin 1))).toInt = (n.val : Int)) :
    Host.gather gather_S4x1900x8_S39862x1_S4x39862x8_02_1_n_n_1_1_418 x idx (ix3 b e h) = x (ix3 b n h) := by
  unfold Host.gather
  refine congrArg x (funext fun a => Fin.ext ?_)
  fin_cases a
  · exact Nat.zero_add _
  · have hs : GatherDims.siIdx gather_S4x1900x8_S39862x1_S4x39862x8_02_1_n_n_1_1_418 (ix3 b e h) ⟨0, by decide⟩ = ix2 e (0 : Fin 1) := by
      funext q; fin_cases q <;> rfl
    have : GatherDims.start gather_S4x1900x8_S39862x1_S4x39862x8_02_1_n_n_1_1_418 (ix3 b e h) idx (1 : Fin 3) = n.val := by
      refine Eq.trans (b := min (idx (ix2 e (0 : Fin 1))).toInt.toNat 1899) (by rw [← hs]; rfl) ?_
      rw [hn]; omega
    exact this
  · exact Nat.zero_add _

/-- An accumulating scatter of one number per head into node rows. -/
theorem scatter_heads (x : FVec Ideal S4x1900x8 .f32) (idx : IVec S39862x1 32) (u : FVec Ideal S4x39862x8 .f32) (b : Fin 4) (n : Fin 1900)
    (h : Fin 8) :
    Host.scatterAdd scatter_S4x1900x8_S39862x1_S4x39862x8_02_1_1_1 x idx u (ix3 b n h)
      = x (ix3 b n h) + ∑ e : Fin 39862, if (idx (ix2 e (0 : Fin 1))).toInt = (n.val : Int) then u (ix3 b e h) else 0 := by
  refine congrArg (x (ix3 b n h) + ·) ?_
  rw [← Finset.sum_filter]
  have key : ∀ (b' : Fin 4) (e : Fin 39862) (h' : Fin 8), ScatterDims.resultIdx? scatter_S4x1900x8_S39862x1_S4x39862x8_02_1_1_1 (ix3 b' e h') idx = some (ix3 b n h)
      ↔ b' = b ∧ (idx (ix2 e (0 : Fin 1))).toInt = (n.val : Int) ∧ h' = h := by
    intro b' e h'
    rw [resultIdx?_eq_some]
    have hs : ScatterDims.siIdx scatter_S4x1900x8_S39862x1_S4x39862x8_02_1_1_1 (ix3 b' e h') ⟨0, by decide⟩ = ix2 e (0 : Fin 1) := by
      funext q; fin_cases q <;> rfl
    have h0 : ScatterDims.start scatter_S4x1900x8_S39862x1_S4x39862x8_02_1_1_1 (ix3 b' e h') idx (0 : Fin 3) + ((ScatterDims.window scatter_S4x1900x8_S39862x1_S4x39862x8_02_1_1_1 (ix3 b' e h') (0 : Fin 3) : Nat) : Int) = (b'.val : Int) := Int.zero_add _
    have h1 : ScatterDims.start scatter_S4x1900x8_S39862x1_S4x39862x8_02_1_1_1 (ix3 b' e h') idx (1 : Fin 3) + ((ScatterDims.window scatter_S4x1900x8_S39862x1_S4x39862x8_02_1_1_1 (ix3 b' e h') (1 : Fin 3) : Nat) : Int) = (idx (ix2 e (0 : Fin 1))).toInt := by
      rw [← hs]; exact Int.add_zero _
    have h2 : ScatterDims.start scatter_S4x1900x8_S39862x1_S4x39862x8_02_1_1_1 (ix3 b' e h') idx (2 : Fin 3) + ((ScatterDims.window scatter_S4x1900x8_S39862x1_S4x39862x8_02_1_1_1 (ix3 b' e h') (2 : Fin 3) : Nat) : Int) = (h'.val : Int) := Int.zero_add _
    constructor
    · intro H
      refine ⟨Fin.ext ?_, h1.symm.trans (H (1 : Fin 3)), Fin.ext ?_⟩
      · exact Int.ofNat.inj (h0.symm.trans (H (0 : Fin 3)))
      · exact Int.ofNat.inj (h2.symm.trans (H (2 : Fin 3)))
    · rintro ⟨rfl, H, rfl⟩ a
      fin_cases a
      · exact h0
      · exact h1.trans H
      · exact h2
  have eta : ∀ j : S4x39862x8.Idx, ix3 (j 0 : Fin 4) (j 1 : Fin 39862) (j 2 : Fin 8) = j := by
    intro j; funext q; fin_cases q <;> rfl
  refine Finset.sum_bij' (fun (j : S4x39862x8.Idx) _ => (j 1 : Fin 39862)) (fun e _ => ix3 b e h) ?_ ?_ ?_ ?_ ?_
  · intro j hj
    have := (Finset.mem_filter.1 hj).2
    rw [← eta j] at this
    exact Finset.mem_filter.2 ⟨Finset.mem_univ _, ((key _ _ _).1 this).2.1⟩
  · intro e he
    exact Finset.mem_filter.2 ⟨Finset.mem_univ _, (key _ _ _).2 ⟨rfl, (Finset.mem_filter.1 he).2, rfl⟩⟩
  · intro j hj
    have := (Finset.mem_filter.1 hj).2
    rw [← eta j] at this
    obtain ⟨e0, -, e2⟩ := (key _ _ _).1 this
    show ix3 b (j 1 : Fin 39862) h = j
    rw [← e0, ← e2]; exact eta j
  · intro e he; rfl
  · intro j hj
    have := (Finset.mem_filter.1 hj).2
    rw [← eta j] at this
    obtain ⟨e0, -, e2⟩ := (key _ _ _).1 this
    show u j = u (ix3 b (j 1 : Fin 39862) h)
    rw [← e0, ← e2]; exact congrArg u (eta j).symm

/-- An accumulating scatter of features into node rows. -/
theorem scatter_features (x : FVec Ideal S4x1900x8x80 .f32) (idx : IVec S39862x1 32) (u : FVec Ideal S4x39862x8x80 .f32) (b : Fin 4) (n : Fin 1900)
    (h : Fin 8) (c : Fin 80) :
    Host.scatterAdd scatter_S4x1900x8x80_S39862x1_S4x39862x8x80_023_1_1_1 x idx u (ix4 b n h c)
      = x (ix4 b n h c) + ∑ e : Fin 39862, if (idx (ix2 e (0 : Fin 1))).toInt = (n.val : Int) then u (ix4 b e h c) else 0 := by
  refine congrArg (x (ix4 b n h c) + ·) ?_
  rw [← Finset.sum_filter]
  have key : ∀ (b' : Fin 4) (e : Fin 39862) (h' : Fin 8) (c' : Fin 80), ScatterDims.resultIdx? scatter_S4x1900x8x80_S39862x1_S4x39862x8x80_023_1_1_1 (ix4 b' e h' c') idx = some (ix4 b n h c)
      ↔ b' = b ∧ (idx (ix2 e (0 : Fin 1))).toInt = (n.val : Int) ∧ h' = h ∧ c' = c := by
    intro b' e h' c'
    rw [resultIdx?_eq_some]
    have hs : ScatterDims.siIdx scatter_S4x1900x8x80_S39862x1_S4x39862x8x80_023_1_1_1 (ix4 b' e h' c') ⟨0, by decide⟩ = ix2 e (0 : Fin 1) := by
      funext q; fin_cases q <;> rfl
    have h0 : ScatterDims.start scatter_S4x1900x8x80_S39862x1_S4x39862x8x80_023_1_1_1 (ix4 b' e h' c') idx (0 : Fin 4) + ((ScatterDims.window scatter_S4x1900x8x80_S39862x1_S4x39862x8x80_023_1_1_1 (ix4 b' e h' c') (0 : Fin 4) : Nat) : Int) = (b'.val : Int) := Int.zero_add _
    have h1 : ScatterDims.start scatter_S4x1900x8x80_S39862x1_S4x39862x8x80_023_1_1_1 (ix4 b' e h' c') idx (1 : Fin 4) + ((ScatterDims.window scatter_S4x1900x8x80_S39862x1_S4x39862x8x80_023_1_1_1 (ix4 b' e h' c') (1 : Fin 4) : Nat) : Int) = (idx (ix2 e (0 : Fin 1))).toInt := by
      rw [← hs]; exact Int.add_zero _
    have h2 : ScatterDims.start scatter_S4x1900x8x80_S39862x1_S4x39862x8x80_023_1_1_1 (ix4 b' e h' c') idx (2 : Fin 4) + ((ScatterDims.window scatter_S4x1900x8x80_S39862x1_S4x39862x8x80_023_1_1_1 (ix4 b' e h' c') (2 : Fin 4) : Nat) : Int) = (h'.val : Int) := Int.zero_add _
    have h3 : ScatterDims.start scatter_S4x1900x8x80_S39862x1_S4x39862x8x80_023_1_1_1 (ix4 b' e h' c') idx (3 : Fin 4) + ((ScatterDims.window scatter_S4x1900x8x80_S39862x1_S4x39862x8x80_023_1_1_1 (ix4 b' e h' c') (3 : Fin 4) : Nat) : Int) = (c'.val : Int) := Int.zero_add _
    constructor
    · intro H
      refine ⟨Fin.ext ?_, h1.symm.trans (H (1 : Fin 4)), Fin.ext ?_, Fin.ext ?_⟩
      · exact Int.ofNat.inj (h0.symm.trans (H (0 : Fin 4)))
      · exact Int.ofNat.inj (h2.symm.trans (H (2 : Fin 4)))
      · exact Int.ofNat.inj (h3.symm.trans (H (3 : Fin 4)))
    · rintro ⟨rfl, H, rfl, rfl⟩ a
      fin_cases a
      · exact h0
      · exact h1.trans H
      · exact h2
      · exact h3
  have eta : ∀ j : S4x39862x8x80.Idx, ix4 (j 0 : Fin 4) (j 1 : Fin 39862) (j 2 : Fin 8) (j 3 : Fin 80) = j := by
    intro j; funext q; fin_cases q <;> rfl
  have at_edge : ∀ j : S4x39862x8x80.Idx, ScatterDims.resultIdx? scatter_S4x1900x8x80_S39862x1_S4x39862x8x80_023_1_1_1 j idx = some (ix4 b n h c)
      → ix4 b (j 1 : Fin 39862) h c = j := by
    intro j hj
    rw [← eta j] at hj
    obtain ⟨e0, -, e2, e3⟩ := (key _ _ _ _).1 hj
    rw [← e0, ← e2, ← e3]; exact eta j
  refine Finset.sum_bij' (fun (j : S4x39862x8x80.Idx) _ => (j 1 : Fin 39862)) (fun e _ => ix4 b e h c) ?_ ?_ ?_ ?_ ?_
  · intro j hj
    have := (Finset.mem_filter.1 hj).2
    rw [← eta j] at this
    exact Finset.mem_filter.2 ⟨Finset.mem_univ _, ((key _ _ _ _).1 this).2.1⟩
  · intro e he
    exact Finset.mem_filter.2 ⟨Finset.mem_univ _, (key _ _ _ _).2 ⟨rfl, (Finset.mem_filter.1 he).2, rfl, rfl⟩⟩
  · intro j hj
    exact at_edge j (Finset.mem_filter.1 hj).2
  · intro e he; rfl
  · intro j hj
    exact congrArg u (at_edge j (Finset.mem_filter.1 hj).2).symm

end Cert.ReferenceIdeal.Ops
-- ==== Proof.Edges.lean ====
/- The graph's edges in closed form, and sums over the edges into a node as sums over its in-neighbours.

   The nodes are numbered window by window, nineteen to a window. The edges are listed by their first node: in the first
   window twenty slots to a node (the nineteen nodes of its window, then the same electrode one window on), in the middle
   windows twenty-one (one window back first), in the last twenty (one window back, then its window). -/
module

public import proofs.«01_k».proof.Proof.Spec
public import Idealize.ShloMosaic.Lib.Pointwise

@[expose] public section

noncomputable section

namespace Cert.Edges

open Idealize.ShloMosaic Cert.Spec

/-- The number of a node's window and electrode as one number. -/
def at' (w : Fin 100) (i : Fin 19) : Fin 1900 := ⟨w.val * 19 + i.val, by omega⟩

/-- An edge's first node, as a number. -/
def nodeN (e : ℕ) : ℕ := if e < 380 then e / 20 else if e < 39482 then 19 + (e - 380) / 21 else 1881 + (e - 39482) / 20

/-- An edge's slot among those of its first node: 0 is one window back, 20 one window on, the rest the node's own window. -/
def slotN (e : ℕ) : ℕ := if e < 380 then e % 20 + 1 else if e < 39482 then (e - 380) % 21 else (e - 39482) % 20

/-- An edge's second node, as a number. -/
def otherN (e : ℕ) : ℕ :=
  if slotN e = 0 then nodeN e - 19 else if slotN e = 20 then nodeN e + 19 else nodeN e / 19 * 19 + slotN e - 1

theorem nodeN_lt {e : ℕ} (h : e < 39862) : nodeN e < 1900 := by unfold nodeN; split_ifs <;> first | omega | exact absurd ‹False› id

theorem otherN_lt {e : ℕ} (h : e < 39862) : otherN e < 1900 := by
  unfold otherN slotN nodeN; split_ifs <;> first | omega | exact absurd ‹False› id

def node (e : Fin 39862) : Fin 1900 := ⟨nodeN e.val, nodeN_lt e.isLt⟩
def other (e : Fin 39862) : Fin 1900 := ⟨otherN e.val, otherN_lt e.isLt⟩

theorem at'_inj (w v : Fin 100) (i k : Fin 19) : at' w i = at' v k ↔ w = v ∧ i = k := by
  simp only [at', Fin.ext_iff]; omega

theorem exists_at (n : Fin 1900) : ∃ w i, n = at' w i :=
  ⟨⟨n.val / 19, by omega⟩, ⟨n.val % 19, by omega⟩, Fin.ext (by simp only [at']; omega)⟩

/-- A sum over the nodes, window by window. -/
theorem sum_nodes {M : Type} [AddCommMonoid M] (f : Fin 1900 → M) : ∑ n, f n = ∑ w, ∑ i, f (at' w i) :=
  Fin.sum_univ_tiles 100 19 rfl f

variable {M : Type} [AddCommMonoid M] (F : Fin 1900 → Fin 1900 → M)

/-- What a node's own window contributes to a sum over the edges out of it. -/
def own (w : Fin 100) (i : Fin 19) : M := ∑ s, F (at' w i) (at' w s)

theorem val0 : ((0 : Fin 100)).val = 0 := rfl
theorem val1 : ((1 : Fin 100)).val = 1 := rfl
theorem val98 : ((98 : Fin 100)).val = 98 := rfl
theorem val99 : ((99 : Fin 100)).val = 99 := rfl

/-- The edges out of the first window's nodes. -/
theorem sum_first : ∑ a : Fin 380, F (node ⟨a.val, by omega⟩) (other ⟨a.val, by omega⟩)
    = ∑ i, (own F 0 i + F (at' 0 i) (at' 1 i)) := by
  rw [Fin.sum_univ_tiles 19 20 rfl]
  refine Finset.sum_congr rfl fun i _ => ?_
  rw [Fin.sum_univ_castSucc]
  unfold own
  congr 1
  · refine Finset.sum_congr rfl fun s _ => ?_
    congr 1 <;> apply Fin.ext <;> simp only [node, other, at', otherN, slotN, nodeN, val0, val1, val98, val99, Fin.val_castSucc] <;> split_ifs <;> first | omega | exact absurd ‹False› id
  · congr 1 <;> apply Fin.ext <;> simp only [node, other, at', otherN, slotN, nodeN, val0, val1, val98, val99, Fin.val_last] <;> split_ifs <;> first | omega | exact absurd ‹False› id

/-- The edges out of the middle windows' nodes. -/
theorem sum_middle : ∑ a : Fin 39102, F (node ⟨380 + a.val, by omega⟩) (other ⟨380 + a.val, by omega⟩)
    = ∑ w : Fin 98, ∑ i, (F (at' ⟨w.val + 1, by omega⟩ i) (at' ⟨w.val, by omega⟩ i) + own F ⟨w.val + 1, by omega⟩ i
        + F (at' ⟨w.val + 1, by omega⟩ i) (at' ⟨w.val + 2, by omega⟩ i)) := by
  rw [Fin.sum_univ_tiles 1862 21 rfl, Fin.sum_univ_tiles 98 19 rfl]
  refine Finset.sum_congr rfl fun w _ => Finset.sum_congr rfl fun i _ => ?_
  rw [Fin.sum_univ_castSucc, Fin.sum_univ_succ]
  unfold own
  congr 1
  · congr 1
    · congr 1 <;> apply Fin.ext <;> simp only [node, other, at', otherN, slotN, nodeN, val0, val1, val98, val99, Fin.val_castSucc, Fin.val_zero] <;> split_ifs <;> first | omega | exact absurd ‹False› id
    · refine Finset.sum_congr rfl fun s _ => ?_
      congr 1 <;> apply Fin.ext <;> simp only [node, other, at', otherN, slotN, nodeN, val0, val1, val98, val99, Fin.val_castSucc, Fin.val_succ] <;> split_ifs <;> first | omega | exact absurd ‹False› id
  · congr 1 <;> apply Fin.ext <;> simp only [node, other, at', otherN, slotN, nodeN, val0, val1, val98, val99, Fin.val_last] <;> split_ifs <;> first | omega | exact absurd ‹False› id

/-- The edges out of the last window's nodes. -/
theorem sum_last : ∑ a : Fin 380, F (node ⟨39482 + a.val, by omega⟩) (other ⟨39482 + a.val, by omega⟩)
    = ∑ i, (F (at' 99 i) (at' 98 i) + own F 99 i) := by
  rw [Fin.sum_univ_tiles 19 20 rfl]
  refine Finset.sum_congr rfl fun i _ => ?_
  rw [Fin.sum_univ_succ]
  unfold own
  congr 1
  · congr 1 <;> apply Fin.ext <;> simp only [node, other, at', otherN, slotN, nodeN, val0, val1, val98, val99, Fin.val_zero] <;> split_ifs <;> first | omega | exact absurd ‹False› id
  · refine Finset.sum_congr rfl fun s _ => ?_
    congr 1 <;> apply Fin.ext <;> simp only [node, other, at', otherN, slotN, nodeN, val0, val1, val98, val99, Fin.val_succ] <;> split_ifs <;> first | omega | exact absurd ‹False› id

/-- A sum over the windows: the first, the middle ones, the last. -/
theorem sum_windows (f : Fin 100 → M) : ∑ w, f w = f 0 + (∑ w : Fin 98, f ⟨w.val + 1, by omega⟩) + f 99 := by
  rw [Fin.sum_univ_castSucc (n := 99), Fin.sum_univ_succ (n := 98)]
  rfl

/-- A sum over the edges: the first window's, the middle windows', the last window's. -/
theorem sum_parts (g : Fin 39862 → M) : ∑ e, g e = (∑ a : Fin 380, g ⟨a.val, by omega⟩)
    + (∑ a : Fin 39102, g ⟨380 + a.val, by omega⟩) + ∑ a : Fin 380, g ⟨39482 + a.val, by omega⟩ := by
  have h1 := Fin.sum_univ_add (a := 39482) (b := 380) (f := fun e : Fin 39862 => g e)
  have h2 := Fin.sum_univ_add (a := 380) (b := 39102) (f := fun e : Fin 39482 => g ⟨e.val, by omega⟩)
  exact h1.trans (congrArg (· + ∑ a : Fin 380, g ⟨39482 + a.val, by omega⟩) h2)

/-- A sum over the edges, node by node. -/
theorem sum_edges : ∑ e, F (node e) (other e)
    = ∑ w : Fin 100, ∑ i, ((∑ s, F (at' w i) (at' w s)) + (if 0 < w.val then F (at' w i) (at' (prev w) i) else 0)
        + (if w.val < 99 then F (at' w i) (at' (next w) i) else 0)) := by
  rw [sum_parts, sum_first, sum_middle, sum_last, sum_windows]
  congr 1
  · congr 1
    · refine Finset.sum_congr rfl fun i _ => ?_
      have hn : next 0 = 1 := rfl
      rw [if_neg (by rw [val0]; omega), if_pos (by rw [val0]; omega), add_zero, hn, own]
    · refine Finset.sum_congr rfl fun w _ => Finset.sum_congr rfl fun i _ => ?_
      have hn : next ⟨w.val + 1, by omega⟩ = (⟨w.val + 2, by omega⟩ : Fin 100) := Fin.ext (by simp only [next]; omega)
      have hp : prev ⟨w.val + 1, by omega⟩ = (⟨w.val, by omega⟩ : Fin 100) := Fin.ext (by simp only [prev]; omega)
      rw [if_pos (by show 0 < w.val + 1; omega), if_pos (by show w.val + 1 < 99; omega), hn, hp, own, add_comm (∑ s, _)]
  · refine Finset.sum_congr rfl fun i _ => ?_
    have hp : prev 99 = 98 := rfl
    rw [if_pos (by rw [val99]; omega), if_neg (by rw [val99]; omega), add_zero, hp, own, add_comm (∑ s, _)]

/-- The edges into a node come from its in-neighbours, one from each. -/
theorem sum_into (f : Fin 1900 → ℝ) (v : Fin 100) (k : Fin 19) :
    ∑ e, (if other e = at' v k then f (node e) else 0) = around v k fun w i => f (at' w i) := by
  refine (sum_edges (F := fun a b => if b = at' v k then f a else 0)).trans ?_
  simp only [Finset.sum_add_distrib, at'_inj]
  have one : ∀ (p : Fin 100 → Prop) [DecidablePred p] (w : Fin 100) (g : Fin 100 → Fin 19 → ℝ), (∀ u, u ≠ w → ¬ p u) → p w →
      (∑ u, ∑ i, if p u ∧ i = k then g u i else 0) = g w k := by
    intro p _ w g hn hp
    rw [Finset.sum_eq_single w (fun u _ hu => by simp [hn u hu]) (fun h => (h (Finset.mem_univ _)).elim)]
    simp [hp]
  have none : ∀ (p : Fin 100 → Prop) [DecidablePred p] (g : Fin 100 → Fin 19 → ℝ), (∀ u, ¬ p u) →
      (∑ u, ∑ i, if p u ∧ i = k then g u i else 0) = 0 := by
    intro p _ g hn
    simp [hn]
  have nest : ∀ (a b c : Prop) [Decidable a] [Decidable b] [Decidable c] (x : ℝ),
      (if a then (if b ∧ c then x else 0) else 0) = if (a ∧ b) ∧ c then x else 0 := by
    intro a b c _ _ _ x; by_cases a <;> simp [*]
  simp only [nest]
  have e1 : (∑ x : Fin 100, ∑ i : Fin 19, ∑ s : Fin 19, if x = v ∧ s = k then f (at' x i) else 0) = ∑ i, f (at' v i) := by
    rw [Finset.sum_eq_single v (fun w _ hw => by simp [hw]) (fun h => (h (Finset.mem_univ _)).elim)]
    simp
  have e2 : (∑ x : Fin 100, ∑ i : Fin 19, if (0 < x.val ∧ prev x = v) ∧ i = k then f (at' x i) else 0)
      = if v.val < 99 then f (at' (next v) k) else 0 := by
    split_ifs with h
    · refine one (fun x => 0 < x.val ∧ prev x = v) (next v) (fun x i => f (at' x i)) ?_ ?_
      · intro u hu ⟨h0, h1⟩
        subst h1; exact hu (Fin.ext (by simp only [next, prev] at h ⊢; omega))
      · simp only [next, prev, Fin.ext_iff]; omega
    · exact none (fun x => 0 < x.val ∧ prev x = v) (fun x i => f (at' x i)) fun u ⟨h0, h1⟩ => by
        subst h1; simp only [prev] at h; omega
  have e3 : (∑ x : Fin 100, ∑ i : Fin 19, if (x.val < 99 ∧ next x = v) ∧ i = k then f (at' x i) else 0)
      = if 0 < v.val then f (at' (prev v) k) else 0 := by
    split_ifs with h
    · refine one (fun x => x.val < 99 ∧ next x = v) (prev v) (fun x i => f (at' x i)) ?_ ?_
      · intro u hu ⟨h0, h1⟩
        subst h1; exact hu (Fin.ext (by simp only [next, prev] at h ⊢; omega))
      · simp only [next, prev, Fin.ext_iff]; omega
    · exact none (fun x => x.val < 99 ∧ next x = v) (fun x i => f (at' x i)) fun u ⟨h0, h1⟩ => by
        subst h1; simp only [next] at h; omega
  rw [e1, e2, e3]
  unfold around
  ring

/-- Every node has an edge into it. -/
theorem exists_into (n : Fin 1900) : ∃ e, other e = n := by
  obtain ⟨v, k, rfl⟩ := exists_at n
  by_contra h
  have hz := sum_into (fun _ => 1) v k
  rw [Finset.sum_eq_zero fun e _ => if_neg fun he => h ⟨e, he⟩] at hz
  have h2 : ∀ (p : Prop) [Decidable p], (0 : ℝ) ≤ if p then 1 else 0 := fun p _ => by split <;> simp
  have a := h2 (0 < v.val)
  have b := h2 (v.val < 99)
  have c : (∑ _s : Fin 19, (1 : ℝ)) = 19 := by simp
  unfold around at hz
  rw [c] at hz
  linarith

end Cert.Edges
-- ==== Proof.RefAt.lean ====
/- The reference's intermediate arrays read at an index. -/
module

public import proofs.«01_k».proof.Proof.RefOps
public import proofs.«01_k».proof.Proof.Edges
public import proofs.«01_k».proof.Proof.Result
public import proofs.«01_k».proof.Proof.Gen.ReferenceIdeal.Run
public import Idealize.ShloMosaic.Lib.Pointwise

@[expose] public section

set_option maxRecDepth 16384

noncomputable section

namespace Cert.ReferenceIdeal.At

open Idealize.ShloMosaic Idealize.ShloMosaic.TcCoe Idealize.SL.Sem Cert.ReferenceIdeal Cert.ReferenceIdeal.Gen Cert.ReferenceIdeal.Value Cert.ReferenceIdeal.Ops
open Cert.Reals Cert.Spec Cert.Edges

/-- A node's window and electrode, a column's head and channel. -/
def win (n : Fin 1900) : Fin 100 := ⟨n.val / 19, by omega⟩
def ele (n : Fin 1900) : Fin 19 := ⟨n.val % 19, by omega⟩
def hd (j : Fin 640) : Fin 8 := ⟨j.val / 80, by omega⟩
def ch (j : Fin 640) : Fin 80 := ⟨j.val % 80, by omega⟩

theorem at'_win (n : Fin 1900) : at' (win n) (ele n) = n := Fin.ext (by simp only [at', win, ele]; omega)
theorem win_at' (w : Fin 100) (i : Fin 19) : win (at' w i) = w := Fin.ext (by simp only [at', win]; omega)
theorem ele_at' (w : Fin 100) (i : Fin 19) : ele (at' w i) = i := Fin.ext (by simp only [at', ele]; omega)
theorem col_hd (j : Fin 640) : col (hd j) (ch j) = j := Fin.ext (by simp only [col, hd, ch]; omega)
theorem hd_col (h : Fin 8) (c : Fin 80) : hd (col h c) = h := Fin.ext (by simp only [col, hd]; omega)
theorem ch_col (h : Fin 8) (c : Fin 80) : ch (col h c) = c := Fin.ext (by simp only [col, ch]; omega)

/-- A word that holds a node number, read signed. -/
theorem toInt_node (k : ℕ) (h : k < 1900) : (BitVec.ofNat 32 k).toInt = (k : Int) := by
  rw [BitVec.toInt_eq_toNat_of_lt] <;> rw [BitVec.toNat_ofNat, Nat.mod_eq_of_lt (by omega)]
  omega

/-- The node numbers a gather reads: negative ones would count from the end. -/
def wrapped (r : IVec S39862 32) : IVec S39862x1 32 :=
  broadcastInDim S39862x1 ![0] bcast_S39862_S39862x1_0 (select (cmpi .slt r (broadcastInDim S39862 ![] bcast_S_S39862 (constantI S_ 32 0#32))) (addi r (broadcastInDim S39862 ![] bcast_S_S39862 (constantI S_ 32 1900#32))) r)

theorem wrapped_at (r : IVec S39862 32) (e : Fin 39862) (k : ℕ) (hk : k < 1900) (hr : r (ix1 e) = BitVec.ofNat 32 k) :
    (wrapped r (ix2 e (0 : Fin 1))).toInt = (k : Int) := by
  have : wrapped r (ix2 e (0 : Fin 1)) = Scalar.select (IntOp.cmpi .slt (r (ix1 e)) 0#32) (IntOp.addi (r (ix1 e)) 1900#32) (r (ix1 e)) := by
    pointwise [wrapped]
  rw [this, hr, Routing.wrap_of_lt _ _ (by rw [BitVec.toNat_ofNat, Nat.mod_eq_of_lt (by omega)]; omega)]
  exact toInt_node k hk

/-- The node numbers a scatter reads. -/
def plain (r : IVec S39862 32) : IVec S39862x1 32 := broadcastInDim S39862x1 ![0] bcast_S39862_S39862x1_0 r

theorem plain_at (r : IVec S39862 32) (e : Fin 39862) : plain r (ix2 e (0 : Fin 1)) = r (ix1 e) := by
  pointwise [plain]

/-! The arguments and the named arrays at their shapes. -/

section
variable (V0 : Valuation τ sig (Elt Ideal))
abbrev a0 : FVec Ideal S4x100x128x19 .f32 := V0 (Proc.devRef .tc main_arg0)
abbrev a1 : FVec Ideal S640x128 .f32 := V0 (Proc.devRef .tc main_arg1)
abbrev a2 : FVec Ideal S640 .f32 := V0 (Proc.devRef .tc main_arg2)
abbrev a3 : FVec Ideal S640x128 .f32 := V0 (Proc.devRef .tc main_arg3)
abbrev a4 : FVec Ideal S640 .f32 := V0 (Proc.devRef .tc main_arg4)
abbrev a5 : FVec Ideal S8x80 .f32 := V0 (Proc.devRef .tc main_arg5)
abbrev a6 : FVec Ideal S640 .f32 := V0 (Proc.devRef .tc main_arg6)
abbrev a7 : FVec Ideal S1x640 .f32 := V0 (Proc.devRef .tc main_arg7)
abbrev a8 : FVec Ideal S1 .f32 := V0 (Proc.devRef .tc main_arg8)
abbrev a9 : FVec Ideal S1x640 .f32 := V0 (Proc.devRef .tc main_arg9)
abbrev a10 : FVec Ideal S1 .f32 := V0 (Proc.devRef .tc main_arg10)
abbrev edges : IVec S2x39862 32 := V0 (Proc.devRef .tc main_arg11)
abbrev srcs : IVec S39862 32 := res_main_v1 V0
abbrev dsts : IVec S39862 32 := res_main_v3 V0
abbrev nodes : FVec Ideal S4x1900x128 .f32 := res_main_v5 V0
abbrev lefts : FVec Ideal S4x1900x8x80 .f32 := res_main_v12 V0
abbrev sums : FVec Ideal S4x39862x8x80 .f32 := res_main_v34 V0
abbrev logits : FVec Ideal S4x39862x8 .f32 := res_main_v37 V0
abbrev exps : FVec Ideal S4x39862x8 .f32 := res_main_v56 V0
abbrev attended : FVec Ideal S4x1900x640 .f32 := res_main_v87 V0
abbrev feats : FVec Ideal S4x1900x640 .f32 := res_main_v88 V0
abbrev scores : FVec Ideal S4x1900x1 .f32 := res_main_v94 V0
abbrev pooled : FVec Ideal S4x1900x1 .f32 := res_main_v101 V0
end

variable (V0 : Valuation τ sig (Elt Ideal)) (I : Inputs)

/-- The arguments hold the reals `I`, and the edges are the graph's. -/
structure Given : Prop where
  reals : Cert.KernelIdeal.Chunk.Holds I (a0 V0) (a1 V0) (a2 V0)
    (a3 V0) (a4 V0) (a5 V0) (a6 V0)
    (a7 V0) (a8 V0) (a9 V0) (a10 V0)
  src : ∀ e : Fin 39862, edges V0 (ix2 (0 : Fin 2) e) = BitVec.ofNat 32 (nodeN e.val)
  dst : ∀ e : Fin 39862, edges V0 (ix2 (1 : Fin 2) e) = BitVec.ofNat 32 (otherN e.val)

variable {V0 I} (H : Given V0 I)
include H

/-- The features of a node as a source and as a target. -/
def L (I : Inputs) (b : Fin 4) (n : Fin 1900) (h : Fin 8) : Fin 80 → ℝ := I.left b h (win n) (ele n)
def R (I : Inputs) (b : Fin 4) (n : Fin 1900) (h : Fin 8) : Fin 80 → ℝ := I.right b h (win n) (ele n)

theorem nodes_at (b : Fin 4) (n : Fin 1900) (k : Fin 128) :
    nodes V0 (ix3 b n k) = ((I.x b (win n) k (ele n) : ℝ) : EReal) := by
  refine Eq.trans ?_ (H.reals.x b (win n) k (ele n))
  unfold nodes res_main_v5
  pointwise
  rfl

theorem left_at (b : Fin 4) (n : Fin 1900) (h : Fin 8) (c : Fin 80) :
    lefts V0 (ix4 b n h c) = ((L I b n h c : ℝ) : EReal) := by
  refine Eq.trans (b := (∑ k : Fin 128, (nodes V0 (ix3 b n k) : EReal) * a1 V0 (ix2 (col h c) k))
    + a2 V0 (ix1 (col h c))) ?_ ?_
  · unfold lefts res_main_v12
    pointwise
    rfl
  · have e1 := fun k => H.reals.wl (col h c) k
    have e2 := H.reals.bl (col h c)
    simp only [nodes_at H, e1, e2, L, Inputs.left, project, EReal.coe_add, coe_sum, EReal.coe_mul]

omit H in
/-- The features as targets, before the edges read them. -/
def rights (V0 : Valuation τ sig (Elt Ideal)) : FVec Ideal S4x1900x8x80 .f32 :=
  shapeCast _ (addf (Host.dotGeneral dot_S4x1900x128_S128x640_S4x1900x640_2_0_01_1_n_n none (nodes V0) (transpose S128x640 [1, 0] (a3 V0) transposes_S640x128_S128x640_1_0)) (broadcastInDim S4x1900x640 ![0, 1, 2] bcast_S1x1x640_S4x1900x640_0_1_2 (broadcastInDim S1x1x640 ![1, 2] bcast_S1x640_S1x1x640_1_2 (broadcastInDim S1x640 ![1] bcast_S640_S1x640_1 (a4 V0))))) shapeCasts_S4x1900x640_S4x1900x8x80

theorem right_at (b : Fin 4) (n : Fin 1900) (h : Fin 8) (c : Fin 80) :
    rights V0 (ix4 b n h c) = ((R I b n h c : ℝ) : EReal) := by
  refine Eq.trans (b := (∑ k : Fin 128, (nodes V0 (ix3 b n k) : EReal) * a3 V0 (ix2 (col h c) k))
    + a4 V0 (ix1 (col h c))) ?_ ?_
  · unfold rights
    pointwise
    rfl
  · have e1 := fun k => H.reals.wr (col h c) k
    have e2 := H.reals.br (col h c)
    simp only [nodes_at H, e1, e2, R, Inputs.right, project, EReal.coe_add, coe_sum, EReal.coe_mul]

theorem src_at (e : Fin 39862) : srcs V0 (ix1 e) = BitVec.ofNat 32 (nodeN e.val) := by
  refine Eq.trans ?_ (H.src e)
  unfold srcs res_main_v1
  pointwise

theorem dst_at (e : Fin 39862) : dsts V0 (ix1 e) = BitVec.ofNat 32 (otherN e.val) := by
  refine Eq.trans ?_ (H.dst e)
  unfold dsts res_main_v3
  pointwise

theorem src_wrapped (e : Fin 39862) : (wrapped (srcs V0) (ix2 e (0 : Fin 1))).toInt = ((node e).val : Int) :=
  wrapped_at _ e _ (nodeN_lt e.isLt) (src_at H e)

theorem dst_wrapped (e : Fin 39862) : (wrapped (dsts V0) (ix2 e (0 : Fin 1))).toInt = ((other e).val : Int) :=
  wrapped_at _ e _ (otherN_lt e.isLt) (dst_at H e)

theorem dst_plain (e : Fin 39862) (n : Fin 1900) : (plain (dsts V0) (ix2 e (0 : Fin 1))).toInt = (n.val : Int) ↔ other e = n := by
  rw [plain_at, dst_at H, toInt_node _ (otherN_lt e.isLt), Fin.ext_iff]
  exact Int.ofNat_inj

/-- An edge's features before the activation. -/
theorem edge_at (b : Fin 4) (e : Fin 39862) (h : Fin 8) (c : Fin 80) :
    sums V0 (ix4 b e h c) = ((L I b (node e) h c + R I b (other e) h c : ℝ) : EReal) := by
  rw [EReal.coe_add, ← left_at H, ← right_at H]
  exact congrArg₂ (fun x y : EReal => x + y) (gather_features (lefts V0) (wrapped (srcs V0)) b e h c (node e) (src_wrapped H e))
    (gather_features (rights V0) (wrapped (dsts V0)) b e h c (other e) (dst_wrapped H e))

/-- The logit of a source at a target. -/
def lg (I : Inputs) (b : Fin 4) (h : Fin 8) (a d : Fin 1900) : ℝ := logit (I.att h) (L I b a h) (R I b d h)

theorem logit_at (b : Fin 4) (e : Fin 39862) (h : Fin 8) :
    logits V0 (ix3 b e h) = ((lg I b h (node e) (other e) : ℝ) : EReal) := by
  refine Eq.trans (b := ∑ c : Fin 80, (a5 V0 (ix2 h c) : EReal) *
        if (0 : EReal) ≤ sums V0 (ix4 b e h c) then (sums V0 (ix4 b e h c) : EReal)
        else (leak : EReal) * sums V0 (ix4 b e h c)) ?_ ?_
  · rw [← ofBits_leak]
    unfold logits res_main_v37
    pointwise
    rfl
  · have e1 := fun c => H.reals.att h c
    simp only [edge_at H, e1, lg, logit, coe_sum, EReal.coe_mul]
    refine Finset.sum_congr rfl fun c _ => congrArg _ ?_
    rw [leaky, coe_ite, EReal.coe_mul]
    exact if_congr EReal.coe_nonneg rfl rfl

/-- The greatest logit of the edges into each node. -/
def maxes (V0 : Valuation τ sig (Elt Ideal)) : FVec Ideal S4x1900x8 .f32 :=
  Host.reduce FloatOps.maximumf (select (broadcastInDim S4x39862x1900x8 ![1, 2, 3] bcast_S39862x1900x8_S4x39862x1900x8_1_2_3 (broadcastInDim S39862x1900x8 ![0, 1, 2] bcast_S39862x1900x1_S39862x1900x8_0_1_2 (broadcastInDim S39862x1900x1 ![0, 1] bcast_S39862x1900_S39862x1900x1_0_1 (cmpi .eq (broadcastInDim S39862x1900 ![0, 1] bcast_S39862x1_S39862x1900_0_1 (broadcastInDim S39862x1 ![0] bcast_S39862_S39862x1_0 (dsts V0))) (broadcastInDim S39862x1900 ![0, 1] bcast_S1x1900_S39862x1900_0_1 (broadcastInDim S1x1900 ![1] bcast_S1900_S1x1900_1 (iotaInDim S1900 32 0))))))) (broadcastInDim S4x39862x1900x8 ![0, 1, 2, 3] bcast_S4x39862x1x8_S4x39862x1900x8_0_1_2_3 (broadcastInDim S4x39862x1x8 ![0, 1, 3] bcast_S4x39862x8_S4x39862x1x8_0_1_3 (logits V0))) (broadcastInDim S4x39862x1900x8 ![1, 2, 3] bcast_S39862x1900x8_S4x39862x1900x8_1_2_3 (broadcastInDim S39862x1900x8 ![] bcast_S_S39862x1900x8 (id (constant S_ .f32 0xFF800000#32))))) (constant S_ .f32 0xFF800000#32) reducesTo_S4x39862x1900x8_S4x1900x8_d1 h_S_

/-- Every node has an edge into it, so the greatest logit is a real. -/
theorem maxes_real (b : Fin 4) (n : Fin 1900) (h : Fin 8) : ∃ m : ℝ, maxes V0 (ix3 b n h) = (m : EReal) := by
  have e1 : maxes V0 (ix3 b n h) = Finset.univ.fold max (⊥ : EReal) (fun e : Fin 39862 =>
      Scalar.select (IntOp.cmpi .eq (dsts V0 (ix1 e)) (BitVec.ofNat 32 n.val)) (logits V0 (ix3 b e h)) (⊥ : EReal)) := by
    rw [← ofBits_neg_inf]
    unfold maxes
    pointwise
    rfl
  rw [e1]
  obtain ⟨e, he⟩ := exists_into n
  refine fold_max_real _ (fun k => ?_) e ?_
  · rw [logit_at H]
    unfold Scalar.select
    split <;> simp
  · have hw : IntOp.cmpi .eq (dsts V0 (ix1 e)) (BitVec.ofNat 32 n.val) = 1#1 := by
      rw [dst_at H, ← he]; simp [IntOp.cmpi, other]
    rw [hw, logit_at H]
    simp [Scalar.select]

/-- The edges' unnormalised weights, each node's shifted by one real. -/
theorem exps_real : ∃ μ : Fin 4 → Fin 1900 → Fin 8 → ℝ, ∀ (b : Fin 4) (e : Fin 39862) (h : Fin 8),
    exps V0 (ix3 b e h) = ((Real.exp (lg I b h (node e) (other e) - μ b (other e) h) : ℝ) : EReal) := by
  choose μ hμ using fun (b : Fin 4) (n : Fin 1900) (h : Fin 8) => maxes_real H b n h
  refine ⟨μ, fun b e h => ?_⟩
  rw [← Ideal.exp_coe, EReal.coe_sub, ← logit_at H, ← hμ]
  exact congrArg (fun x : EReal => Ideal.exp (logits V0 (ix3 b e h) - x)) (gather_heads (maxes V0) (wrapped (dsts V0)) b e h (other e) (dst_wrapped H e))

/-- The sum of the weights of the edges into each node. -/
def masses (V0 : Valuation τ sig (Elt Ideal)) : FVec Ideal S4x1900x8 .f32 :=
  Host.scatterAdd scatter_S4x1900x8_S39862x1_S4x39862x8_02_1_1_1 (broadcastInDim S4x1900x8 ![1, 2] bcast_S1900x8_S4x1900x8_1_2 (broadcastInDim S1900x8 ![] bcast_S_S1900x8 (constant S_ .f32 0x00000000#32))) (plain (dsts V0)) (exps V0)

omit H in
theorem around_mul (w : Fin 100) (i : Fin 19) (f : Fin 100 → Fin 19 → ℝ) (k : ℝ) : around w i (fun v s => f v s * k) = around w i f * k := by
  unfold around
  rw [← Finset.sum_mul]
  split_ifs <;> ring

omit H in
/-- A sum over the edges into a node of what their first nodes give. -/
theorem sum_at (n : Fin 1900) (f : Fin 1900 → ℝ) : ∑ e, (if other e = n then f (node e) else 0) = around (win n) (ele n) fun w i => f (at' w i) := by
  have := sum_into f (win n) (ele n)
  rwa [at'_win] at this

section
variable {μ : Fin 4 → Fin 1900 → Fin 8 → ℝ}
  (hμ : ∀ (b : Fin 4) (e : Fin 39862) (h : Fin 8), exps V0 (ix3 b e h) = ((Real.exp (lg I b h (node e) (other e) - μ b (other e) h) : ℝ) : EReal))
include hμ

theorem masses_at (b : Fin 4) (n : Fin 1900) (h : Fin 8) :
    masses V0 (ix3 b n h) = ((mass I.att (I.left b) (I.right b) h (win n) (ele n) * Real.exp (-μ b n h) : ℝ) : EReal) := by
  refine (scatter_heads _ (plain (dsts V0)) (exps V0) b n h).trans ?_
  simp only [dst_plain H, hμ]
  have hz : broadcastInDim S4x1900x8 ![1, 2] bcast_S1900x8_S4x1900x8_1_2 (broadcastInDim S1900x8 ![] bcast_S_S1900x8 (constant (F := Ideal) S_ .f32 0x00000000#32)) (ix3 b n h) = (0 : EReal) := by
    pointwise
  rw [hz, zero_add]
  have hs := sum_at n fun a => Real.exp (lg I b h a n) * Real.exp (-μ b n h)
  rw [around_mul] at hs
  have hm : (around (win n) (ele n) fun w i => Real.exp (lg I b h (at' w i) n)) = mass I.att (I.left b) (I.right b) h (win n) (ele n) := by
    unfold mass weight lg L R
    simp only [win_at', ele_at']
  rw [hm] at hs
  rw [← hs, coe_sum]
  refine Finset.sum_congr rfl fun e _ => ?_
  rw [coe_ite]
  split_ifs with he
  · rw [he, sub_eq_add_neg, Real.exp_add]
  · rfl

/-- The messages the edges carry. -/
def messages (V0 : Valuation τ sig (Elt Ideal)) : FVec Ideal S4x39862x8x80 .f32 :=
  mulf (Host.gather gather_S4x1900x8x80_S39862x1_S4x39862x8x80_023_1_n_n_1_1_41880 (lefts V0) (wrapped (srcs V0))) (broadcastInDim S4x39862x8x80 ![0, 1, 2, 3] bcast_S4x39862x8x1_S4x39862x8x80_0_1_2_3 (broadcastInDim S4x39862x8x1 ![0, 1, 2] bcast_S4x39862x8_S4x39862x8x1_0_1_2 (Host.divf (exps V0) (Host.gather gather_S4x1900x8_S39862x1_S4x39862x8_02_1_n_n_1_1_418 (masses V0) (wrapped (dsts V0))))))

theorem messages_at (b : Fin 4) (e : Fin 39862) (h : Fin 8) (c : Fin 80) :
    messages V0 (ix4 b e h c) = ((Real.exp (lg I b h (node e) (other e)) * L I b (node e) h c
      * (mass I.att (I.left b) (I.right b) h (win (other e)) (ele (other e)))⁻¹ : ℝ) : EReal) := by
  have e1 : messages V0 (ix4 b e h c) = (Host.gather gather_S4x1900x8x80_S39862x1_S4x39862x8x80_023_1_n_n_1_1_41880 (lefts V0) (wrapped (srcs V0)) (ix4 b e h c) : EReal)
      * Ideal.div (exps V0 (ix3 b e h)) (Host.gather gather_S4x1900x8_S39862x1_S4x39862x8_02_1_n_n_1_1_418 (masses V0) (wrapped (dsts V0)) (ix3 b e h)) := by
    unfold messages
    pointwise
  have hp := mass_pos I.att (I.left b) (I.right b) h (win (other e)) (ele (other e))
  have hx := Real.exp_pos (-μ b (other e) h)
  rw [e1, gather_features _ _ b e h c (node e) (src_wrapped H e), gather_heads _ _ b e h (other e) (dst_wrapped H e), left_at H, hμ, masses_at H hμ,
    div_coe_coe _ (by positivity), ← EReal.coe_mul]
  refine congrArg _ ?_
  rw [sub_eq_add_neg, Real.exp_add]
  field_simp

end

/-- The attention's output, before the heads are put side by side. -/
def gathered (V0 : Valuation τ sig (Elt Ideal)) : FVec Ideal S4x1900x8x80 .f32 :=
  Host.scatterAdd scatter_S4x1900x8x80_S39862x1_S4x39862x8x80_023_1_1_1 (broadcastInDim S4x1900x8x80 ![1, 2, 3] bcast_S1900x8x80_S4x1900x8x80_1_2_3 (broadcastInDim S1900x8x80 ![] bcast_S_S1900x8x80 (constant S_ .f32 0x00000000#32))) (plain (dsts V0)) (messages V0)

theorem gathered_at (b : Fin 4) (n : Fin 1900) (h : Fin 8) (c : Fin 80) :
    gathered V0 (ix4 b n h c) = ((attend I.att (I.left b) (I.right b) h (win n) (ele n) c : ℝ) : EReal) := by
  obtain ⟨μ, hμ⟩ := exps_real H
  refine (scatter_features _ (plain (dsts V0)) (messages V0) b n h c).trans ?_
  simp only [dst_plain H, messages_at H hμ]
  have hz : broadcastInDim S4x1900x8x80 ![1, 2, 3] bcast_S1900x8x80_S4x1900x8x80_1_2_3 (broadcastInDim S1900x8x80 ![] bcast_S_S1900x8x80 (constant (F := Ideal) S_ .f32 0x00000000#32)) (ix4 b n h c) = (0 : EReal) := by
    pointwise
  rw [hz, zero_add]
  have hs := sum_at n fun a => Real.exp (lg I b h a n) * L I b a h c * (mass I.att (I.left b) (I.right b) h (win n) (ele n))⁻¹
  rw [around_mul] at hs
  have hm : (around (win n) (ele n) fun w i => Real.exp (lg I b h (at' w i) n) * L I b (at' w i) h c)
      = around (win n) (ele n) fun v s => weight I.att (I.left b) (I.right b) h (win n) (ele n) v s * I.left b h v s c := by
    unfold weight lg L R
    simp only [win_at', ele_at']
  rw [hm, ← div_eq_mul_inv] at hs
  refine Eq.trans ?_ (congrArg (fun x : ℝ => (x : EReal)) hs)
  rw [coe_sum]
  refine Finset.sum_congr rfl fun e _ => ?_
  rw [coe_ite]
  split_ifs with he
  · rw [he]
  · rfl

theorem attended_at (b : Fin 4) (n : Fin 1900) (j : Fin 640) :
    attended V0 (ix3 b n j) = ((attend I.att (I.left b) (I.right b) (hd j) (win n) (ele n) (ch j) + I.bias j : ℝ) : EReal) := by
  have e1 : attended V0 (ix3 b n j) = (gathered V0 (ix4 b n (hd j) (ch j)) : EReal) + a6 V0 (ix1 j) := by
    change (addf (shapeCast _ (gathered V0) shapeCasts_S4x1900x8x80_S4x1900x640) (broadcastInDim S4x1900x640 ![0, 1, 2] bcast_S1x1x640_S4x1900x640_0_1_2 (broadcastInDim S1x1x640 ![1, 2] bcast_S1x640_S1x1x640_1_2 (broadcastInDim S1x640 ![1] bcast_S640_S1x640_1 (a6 V0)))) : FVec Ideal S4x1900x640 .f32) (ix3 b n j) = _
    pointwise
    rfl
  rw [e1, gathered_at H, H.reals.bias j, EReal.coe_add]

/-- A node's feature in a column. -/
def ft (I : Inputs) (b : Fin 4) (n : Fin 1900) (j : Fin 640) : ℝ :=
  feat I.att (I.left b) (I.right b) (heads I.bias) (hd j) (win n) (ele n) (ch j)

theorem feats_at (b : Fin 4) (n : Fin 1900) (j : Fin 640) : feats V0 (ix3 b n j) = ((ft I b n j : ℝ) : EReal) := by
  have e1 : feats V0 (ix3 b n j) = if (0 : EReal) < attended V0 (ix3 b n j) then (attended V0 (ix3 b n j) : EReal)
      else (1 : EReal) * (Ideal.exp (if (0 : EReal) < attended V0 (ix3 b n j) then (0 : EReal) else attended V0 (ix3 b n j)) - 1) := by
    unfold feats res_main_v88
    have z0 : (id (constant (F := Ideal) S_ .f32 0x00000000#32) ix0 : EReal) = 0 := by
      show Ideal.ofBits .f32 0x00000000#32 = 0
      simp [Ideal.ofBits, Ideal.ieee]
    pointwise
    erw [z0]
  rw [e1, attended_at H]
  unfold ft feat elu heads
  rw [col_hd]
  generalize attend I.att (I.left b) (I.right b) (hd j) (win n) (ele n) (ch j) + I.bias j = z
  rw [coe_ite]
  by_cases hz : 0 < z
  · rw [if_pos (EReal.coe_pos.2 hz), if_pos hz]
  · rw [if_neg (fun h => hz (EReal.coe_pos.1 h)), if_neg hz, if_neg (fun h => hz (EReal.coe_pos.1 h)), one_mul, Ideal.exp_coe, EReal.coe_sub, EReal.coe_one]

omit H in
/-- A sum over the columns, head by head. -/
theorem sum_columns (f : Fin 640 → ℝ) : ∑ j, f j = ∑ h : Fin 8, ∑ c : Fin 80, f (col h c) := Fin.sum_univ_tiles 8 80 rfl f

omit H in
/-- A node's sum against a weight over the columns. -/
theorem sum_ft (b : Fin 4) (n : Fin 1900) (W : Fin 640 → ℝ) :
    ∑ j, ft I b n j * W j = score I.att (I.left b) (I.right b) (heads I.bias) (heads W) (win n) (ele n) := by
  rw [sum_columns]
  unfold score ft heads
  simp only [hd_col, ch_col]

/-- A node's score, without the bias. -/
def sc (I : Inputs) (b : Fin 4) (n : Fin 1900) : ℝ := score I.att (I.left b) (I.right b) (heads I.bias) (heads I.pool) (win n) (ele n)

theorem scores_at (b : Fin 4) (n : Fin 1900) : scores V0 (ix3 b n (0 : Fin 1)) = ((sc I b n + I.bpool : ℝ) : EReal) := by
  have e1 : scores V0 (ix3 b n (0 : Fin 1)) = (∑ j : Fin 640, (feats V0 (ix3 b n j) : EReal) * a7 V0 (ix2 (0 : Fin 1) j)) + a8 V0 (ix1 (0 : Fin 1)) := by
    unfold scores res_main_v94
    pointwise
  have e2 := fun j => H.reals.pool j
  have e3 := H.reals.bpool
  rw [e1, e3, sc, ← sum_ft, EReal.coe_add, coe_sum]
  simp only [feats_at H, e2, EReal.coe_mul]

/-- The greatest score of each graph. -/
def best (V0 : Valuation τ sig (Elt Ideal)) : FVec Ideal S4x1 .f32 :=
  maximumf (broadcastInDim S4x1 ![] bcast_S_S4x1 (constant S_ .f32 0xFF800000#32)) (Host.reduce FloatOps.maximumf (scores V0) (constant S_ .f32 0xFF800000#32) reducesTo_S4x1900x1_S4x1_d1 h_S_)

theorem best_real (b : Fin 4) : ∃ m : ℝ, best V0 (ix2 b (0 : Fin 1)) = (m : EReal) := by
  have e1 : best V0 (ix2 b (0 : Fin 1)) = max (⊥ : EReal) ((Finset.univ.filter fun i => reducesTo_S4x1900x1_S4x1_d1.drop i = ix2 b (0 : Fin 1)).fold max (⊥ : EReal) (scores V0)) := by
    rw [← ofBits_neg_inf]
    unfold best
    pointwise
  have hs : ∀ i : S4x1900x1.Idx, ∃ x : ℝ, scores V0 i = (x : EReal) := by
    intro i
    have hi : i = ix3 (i 0 : Fin 4) (i 1 : Fin 1900) (0 : Fin 1) := by
      funext q
      fin_cases q
      · rfl
      · rfl
      · exact Subsingleton.elim (α := Fin 1) _ _
    rw [hi]
    exact ⟨_, scores_at H _ _⟩
  rw [e1, max_eq_right bot_le]
  refine fold_max_real_on _ _ (fun i _ => ?_) (ix3 b (⟨0, by omega⟩ : Fin 1900) (0 : Fin 1)) (Finset.mem_filter.2 ⟨Finset.mem_univ _, ?_⟩) ?_
  · obtain ⟨x, hx⟩ := hs i
    rw [hx]; exact EReal.coe_ne_top _
  · funext q; fin_cases q <;> rfl
  · rw [scores_at H]; exact EReal.coe_ne_bot _

/-- The nodes' unnormalised pooling weights, each graph's shifted by one real. -/
theorem pooled_real : ∃ κ : Fin 4 → ℝ, ∀ (b : Fin 4) (n : Fin 1900), pooled V0 (ix3 b n (0 : Fin 1)) = ((Real.exp (sc I b n) * Real.exp (κ b) : ℝ) : EReal) := by
  have e1 : ∀ (b : Fin 4) (n : Fin 1900), pooled V0 (ix3 b n (0 : Fin 1)) = Ideal.exp ((scores V0 (ix3 b n (0 : Fin 1)) : EReal) - best V0 (ix2 b (0 : Fin 1))) := by
    intro b n
    change (Host.exp (subf (scores V0) (broadcastInDim S4x1900x1 ![0, 1, 2] bcast_S4x1x1_S4x1900x1_0_1_2 (broadcastInDim S4x1x1 ![0, 2] bcast_S4x1_S4x1x1_0_2 (best V0)))) : FVec Ideal S4x1900x1 .f32) (ix3 b n (0 : Fin 1)) = _
    pointwise
  choose m hm using best_real H
  refine ⟨fun b => I.bpool - m b, fun b n => ?_⟩
  rw [e1, hm, scores_at H, ← EReal.coe_sub, Ideal.exp_coe, ← Real.exp_add]
  congr 2; ring

/-- The reference's result. -/
def outcome (V0 : Valuation τ sig (Elt Ideal)) : FVec Ideal S4x1x1 .f32 :=
  shapeCast _ (shapeCast S4 (addf (Host.dotGeneral dot_S4x640_S640x1_S4x1_1_0_0_1_n_n none (Host.reduceAdd (mulf (broadcastInDim S4x1900x640 ![0, 1, 2] bcast_S4x1900x1_S4x1900x640_0_1_2 (Host.divf (pooled V0) (broadcastInDim S4x1900x1 ![0, 1, 2] bcast_S4x1x1_S4x1900x1_0_1_2 (broadcastInDim S4x1x1 ![0, 2] bcast_S4x1_S4x1x1_0_2 (Host.reduceAdd (pooled V0) (constant S_ .f32 0x00000000#32) reducesTo_S4x1900x1_S4x1_d1 h_S_))))) (feats V0)) (constant S_ .f32 0x00000000#32) reducesTo_S4x1900x640_S4x640_d1 h_S_) (transpose S640x1 [1, 0] (a9 V0) transposes_S1x640_S640x1_1_0)) (broadcastInDim S4x1 ![0, 1] bcast_S1x1_S4x1_0_1 (broadcastInDim S1x1 ![1] bcast_S1_S1x1_1 (a10 V0)))) shapeCasts_S4x1_S4) shapeCasts_S4_S4x1x1

theorem outcome_at (b : Fin 4) (p q : Fin 1) : outcome V0 (ix3 b p q) = ((I.value b : ℝ) : EReal) := by
  have e1 : outcome V0 (ix3 b p q) = (∑ j : Fin 640, (∑ n : Fin 1900, Ideal.div (pooled V0 (ix3 b n (0 : Fin 1))) (∑ k : Fin 1900, (pooled V0 (ix3 b k (0 : Fin 1)) : EReal)) * (feats V0 (ix3 b n j) : EReal))
      * a9 V0 (ix2 (0 : Fin 1) j)) + a10 V0 (ix1 (0 : Fin 1)) := by
    unfold outcome
    pointwise
  obtain ⟨κ, hκ⟩ := pooled_real H
  have e2 := fun j => H.reals.fc j
  have e3 := H.reals.bfc
  have hs : (0 : ℝ) < ∑ k : Fin 1900, Real.exp (sc I b k) * Real.exp (κ b) :=
    Finset.sum_pos (fun k _ => by positivity) ⟨0, Finset.mem_univ _⟩
  rw [e1, e3]
  simp only [hκ, feats_at H, e2, ← coe_sum]
  simp only [div_coe_coe _ hs.ne', ← EReal.coe_mul, ← coe_sum, ← EReal.coe_add]
  refine congrArg _ ?_
  unfold Inputs.value result
  refine congrArg (· + I.bfc) ?_
  have hx := Real.exp_pos (κ b)
  have hn : ∑ w, ∑ i, Real.exp (score I.att (I.left b) (I.right b) (heads I.bias) (heads I.pool) w i) = ∑ n, Real.exp (sc I b n) := by
    rw [sum_nodes]; simp only [sc, win_at', ele_at']
  have hd : ∑ w, ∑ i, Real.exp (score I.att (I.left b) (I.right b) (heads I.bias) (heads I.pool) w i) * score I.att (I.left b) (I.right b) (heads I.bias) (heads I.fc) w i
      = ∑ n, Real.exp (sc I b n) * ∑ j, ft I b n j * I.fc j := by
    rw [sum_nodes]; simp only [sc, sum_ft, win_at', ele_at']
  rw [hn, hd, ← Finset.sum_mul]
  have hp : (0 : ℝ) < ∑ n : Fin 1900, Real.exp (sc I b n) := Finset.sum_pos (fun k _ => by positivity) ⟨0, Finset.mem_univ _⟩
  simp only [Finset.sum_mul, Finset.mul_sum, Finset.sum_div]
  rw [Finset.sum_comm]
  refine Finset.sum_congr rfl fun n _ => Finset.sum_congr rfl fun j _ => ?_
  rw [← Finset.sum_mul]
  field_simp

end Cert.ReferenceIdeal.At
-- ==== Proof.Pre.lean ====
/- What the precondition says: the float arguments hold reals, and the edges are the graph's. -/
module

public import proofs.«01_k».proof.Pre_finite_and_edges
public import proofs.«01_k».proof.Proof.Result
public import proofs.«01_k».proof.Proof.Edges
public import Idealize.ShloMosaic.Lib.Pointwise
public import Idealize.ShloMosaic.Lib.ReduceAll
public import Idealize.ShloMosaic.Lib.Affine
public import Idealize.ShloMosaic.Lib.Decide
public import Idealize.ShloMosaic.Lib.WordCmp
public import Idealize.ShloMosaic.Lib.Routing.Words

@[expose] public section

set_option maxRecDepth 16384

noncomputable section

namespace Cert.Pre_finite_and_edges.Decode

open Idealize.ShloMosaic Idealize.ShloMosaic.Routing Cert.Pre_finite_and_edges Cert.Reals Cert.Spec Cert.Edges

instance facts : Facts where
  bcast_S_S39862 := by decide
  bcast_S_S4x100x128x19 := by decide
  reducesTo_S4x100x128x19_S_d0_1_2_3 := by decide
  h_S_ := by decide
  bcast_S_S640x128 := by decide
  reducesTo_S640x128_S_d0_1 := by decide
  bcast_S_S640 := by decide
  reducesTo_S640_S_d0 := by decide
  bcast_S_S8x80 := by decide
  reducesTo_S8x80_S_d0_1 := by decide
  bcast_S_S1x640 := by decide
  reducesTo_S1x640_S_d0_1 := by decide
  bcast_S_S1 := by decide
  reducesTo_S1_S_d0 := by decide
  slices_S2x39862_S1x39862_0_0 := by decide
  shapeCasts_S1x39862_S39862 := by decide
  reducesTo_S39862_S_d0 := by decide
  slices_S2x39862_S1x39862_1_0 := by decide

open Facts

instance : Subsingleton S_.Idx := ⟨fun a b => funext fun k => k.elim0⟩

theorem both {x y : IVec S_ 1} (h : andi x y ix0 = 1#1) : x ix0 = 1#1 ∧ y ix0 = 1#1 := IntOp.andi_eq_one.1 h

/-- That every element of an array is below the infinity in magnitude. -/
def finite {s : Shape} {axes : List (Fin s.rank)} (hb : S_.BroadcastsInDim s (![] : Fin 0 → Fin s.rank)) (hr : s.ReducesTo axes S_)
    (a : FVec Ideal s .f32) : IVec S_ 1 :=
  Host.reduce IntOp.andi (cmpf .olt (Host.absf a) (broadcastInDim s ![] hb (constant S_ .f32 0x7F800000#32))) (constantI S_ 1 1#1) hr h_S_

theorem finite_real {s : Shape} {axes : List (Fin s.rank)} {hb : S_.BroadcastsInDim s (![] : Fin 0 → Fin s.rank)} {hr : s.ReducesTo axes S_}
    {a : FVec Ideal s .f32} (h : finite hb hr a ix0 = 1#1) (i : s.Idx) : a i = ((EReal.toReal (a i) : ℝ) : EReal) := by
  have h1 := Host.reduce_andi_all _ _ hr h_S_ ix0 h i
  have h2 : (if max (a i : EReal) (-(a i)) < Ideal.ofBits .f32 0x7F800000#32 then 1#1 else 0#1) = 1#1 := by
    refine Eq.trans ?_ h1
    show _ = BitVec.ofBool (decide (max (a i : EReal) (-(a i)) < Ideal.ofBits .f32 0x7F800000#32))
    split_ifs with hc <;> simp [hc]
  rw [ofBits_inf] at h2
  have h3 : max (a i : EReal) (-(a i)) < ⊤ := by
    by_contra hc
    rw [if_neg hc] at h2
    exact absurd h2 (by decide)
  refine (EReal.coe_toReal (fun ht => ?_) (fun hbot => ?_)).symm
  · rw [ht] at h3; simp at h3
  · rw [hbot] at h3; simp at h3

/-- The words the first nodes, the slots and the second nodes are compared with. -/
def nodeWords : IVec S39862 32 :=
  select (cmpi .slt (iotaInDim S39862 32 0) (broadcastInDim S39862 ![] bcast_S_S39862 (constantI S_ 32 380#32))) (Host.divsi (iotaInDim S39862 32 0) (broadcastInDim S39862 ![] bcast_S_S39862 (constantI S_ 32 20#32))) (select (cmpi .sge (iotaInDim S39862 32 0) (broadcastInDim S39862 ![] bcast_S_S39862 (constantI S_ 32 39482#32))) (addi (broadcastInDim S39862 ![] bcast_S_S39862 (constantI S_ 32 1881#32)) (Host.divsi (subi (iotaInDim S39862 32 0) (broadcastInDim S39862 ![] bcast_S_S39862 (constantI S_ 32 39482#32))) (broadcastInDim S39862 ![] bcast_S_S39862 (constantI S_ 32 20#32)))) (addi (broadcastInDim S39862 ![] bcast_S_S39862 (constantI S_ 32 19#32)) (Host.divsi (subi (iotaInDim S39862 32 0) (broadcastInDim S39862 ![] bcast_S_S39862 (constantI S_ 32 380#32))) (broadcastInDim S39862 ![] bcast_S_S39862 (constantI S_ 32 21#32)))))
def slotWords : IVec S39862 32 :=
  select (cmpi .slt (iotaInDim S39862 32 0) (broadcastInDim S39862 ![] bcast_S_S39862 (constantI S_ 32 380#32))) (addi (Host.remsi (iotaInDim S39862 32 0) (broadcastInDim S39862 ![] bcast_S_S39862 (constantI S_ 32 20#32))) (broadcastInDim S39862 ![] bcast_S_S39862 (constantI S_ 32 1#32))) (select (cmpi .sge (iotaInDim S39862 32 0) (broadcastInDim S39862 ![] bcast_S_S39862 (constantI S_ 32 39482#32))) (Host.remsi (subi (iotaInDim S39862 32 0) (broadcastInDim S39862 ![] bcast_S_S39862 (constantI S_ 32 39482#32))) (broadcastInDim S39862 ![] bcast_S_S39862 (constantI S_ 32 20#32))) (Host.remsi (subi (iotaInDim S39862 32 0) (broadcastInDim S39862 ![] bcast_S_S39862 (constantI S_ 32 380#32))) (broadcastInDim S39862 ![] bcast_S_S39862 (constantI S_ 32 21#32))))
def otherWords : IVec S39862 32 :=
  select (cmpi .eq slotWords (broadcastInDim S39862 ![] bcast_S_S39862 (constantI S_ 32 0#32))) (subi nodeWords (broadcastInDim S39862 ![] bcast_S_S39862 (constantI S_ 32 19#32))) (select (cmpi .eq slotWords (broadcastInDim S39862 ![] bcast_S_S39862 (constantI S_ 32 20#32))) (addi nodeWords (broadcastInDim S39862 ![] bcast_S_S39862 (constantI S_ 32 19#32))) (subi (addi (muli (Host.divsi nodeWords (broadcastInDim S39862 ![] bcast_S_S39862 (constantI S_ 32 19#32))) (broadcastInDim S39862 ![] bcast_S_S39862 (constantI S_ 32 19#32))) slotWords) (broadcastInDim S39862 ![] bcast_S_S39862 (constantI S_ 32 1#32))))

/-- A choice by a comparison that is decided. -/
theorem select_decide {α : Type} (p : Prop) [Decidable p] (x y : α) : Scalar.select (BitVec.ofBool (decide p)) x y = if p then x else y := by
  by_cases h : p <;> simp [Scalar.select, h]

theorem subi_word {a b : ℕ} (h : b ≤ a) (ha : a < 2 ^ 32) : IntOp.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega

theorem nodeWords_at (e : Fin 39862) : nodeWords (ix1 e) = BitVec.ofNat 32 (nodeN e.val) := by
  have hl := e.isLt
  unfold nodeWords nodeN
  pointwise
  rw [WordCmp.cmpi_slt_ofNat (by omega) (by omega), WordCmp.cmpi_sge_ofNat (by omega) (by omega), select_decide, select_decide]
  split_ifs with h1 h2 h2
  · exact divsi_word _ (by omega) (by omega) (by omega)
  · omega
  · rw [subi_word (by omega) (by omega), divsi_word _ (by omega) (by omega) (by omega), WordCmp.addi_ofNat]
  · rw [subi_word (by omega) (by omega), divsi_word _ (by omega) (by omega) (by omega), WordCmp.addi_ofNat]
  · omega

theorem slotWords_at (e : Fin 39862) : slotWords (ix1 e) = BitVec.ofNat 32 (slotN e.val) := by
  have hl := e.isLt
  unfold slotWords slotN
  pointwise
  rw [WordCmp.cmpi_slt_ofNat (by omega) (by omega), WordCmp.cmpi_sge_ofNat (by omega) (by omega), select_decide, select_decide]
  split_ifs with h1 h2 h2
  · rw [remsi_word _ (by omega) (by omega) (by omega), WordCmp.addi_ofNat]
  · omega
  · rw [subi_word (by omega) (by omega), remsi_word _ (by omega) (by omega) (by omega)]
  · rw [subi_word (by omega) (by omega), remsi_word _ (by omega) (by omega) (by omega)]
  · omega

theorem slotN_le {e : ℕ} : slotN e ≤ 20 := by unfold slotN; split_ifs <;> omega

theorem node_of_slot {e : ℕ} (h : slotN e = 0) : 19 ≤ nodeN e := by
  unfold slotN at h; unfold nodeN; split_ifs at h ⊢ <;> omega

theorem otherWords_at (e : Fin 39862) : otherWords (ix1 e) = BitVec.ofNat 32 (otherN e.val) := by
  have hn := nodeN_lt e.isLt
  have hs := slotN_le (e := e.val)
  unfold otherWords otherN
  pointwise
  rw [slotWords_at, nodeWords_at, WordCmp.cmpi_eq_ofNat (by omega) (by omega), WordCmp.cmpi_eq_ofNat (by omega) (by omega), select_decide, select_decide]
  split_ifs with h1 h2
  · exact subi_word (node_of_slot h1) (by omega)
  · exact WordCmp.addi_ofNat _ _
  · rw [divsi_word _ (by omega) (by omega) (by omega), WordCmp.muli_ofNat, WordCmp.addi_ofNat, subi_word (by omega) (by omega)]

variable (a0 : FVec Ideal S4x100x128x19 .f32) (a1 : FVec Ideal S640x128 .f32) (a2 : FVec Ideal S640 .f32)
    (a3 : FVec Ideal S640x128 .f32) (a4 : FVec Ideal S640 .f32) (a5 : FVec Ideal S8x80 .f32) (a6 : FVec Ideal S640 .f32)
    (a7 : FVec Ideal S1x640 .f32) (a8 : FVec Ideal S1 .f32) (a9 : FVec Ideal S1x640 .f32) (a10 : FVec Ideal S1 .f32) (a11 : IVec S2x39862 32)

/-- The reals the arguments hold. -/
def inputs : Inputs where
  x b w k i := EReal.toReal (a0 (ix4 b w k i))
  wl j k := EReal.toReal (a1 (ix2 j k))
  bl j := EReal.toReal (a2 (ix1 j))
  wr j k := EReal.toReal (a3 (ix2 j k))
  br j := EReal.toReal (a4 (ix1 j))
  att h c := EReal.toReal (a5 (ix2 h c))
  bias j := EReal.toReal (a6 (ix1 j))
  pool j := EReal.toReal (a7 (ix2 (0 : Fin 1) j))
  bpool := EReal.toReal (a8 (ix1 (0 : Fin 1)))
  fc j := EReal.toReal (a9 (ix2 (0 : Fin 1) j))
  bfc := EReal.toReal (a10 (ix1 (0 : Fin 1)))

/-- A row of the edge array is the words it is compared with. -/
theorem row_at {r : IVec S39862 32} {g : IVec S39862 32}
    (h : Host.reduce IntOp.andi (cmpi .eq r g) (constantI S_ 1 1#1) reducesTo_S39862_S_d0 h_S_ ix0 = 1#1) (e : Fin 39862) : r (ix1 e) = g (ix1 e) := by
  have h1 := Host.reduce_andi_all _ _ reducesTo_S39862_S_d0 h_S_ ix0 h (ix1 e)
  have h2 : IntOp.cmpi .eq (r (ix1 e)) (g (ix1 e)) = 1#1 := h1
  rw [WordCmp.cmpi_eq_eq, WordCmp.ofBool_decide_eq_one_iff] at h2
  exact h2

theorem decode (h : fn (F := Ideal) a0 a1 a2 a3 a4 a5 a6 a7 a8 a9 a10 a11 = fun _ => 1#1) :
    Cert.KernelIdeal.Chunk.Holds (inputs a0 a1 a2 a3 a4 a5 a6 a7 a8 a9 a10) a0 a1 a2 a3 a4 a5 a6 a7 a8 a9 a10
      ∧ (∀ e : Fin 39862, a11 (ix2 (0 : Fin 2) e) = BitVec.ofNat 32 (nodeN e.val))
      ∧ ∀ e : Fin 39862, a11 (ix2 (1 : Fin 2) e) = BitVec.ofNat 32 (otherN e.val) := by
  have h0 := congrFun h ix0
  change andi (andi (andi (andi (andi (andi (andi (andi (andi (andi (andi (andi (andi (constantI S_ 1 1#1)
    (finite bcast_S_S4x100x128x19 reducesTo_S4x100x128x19_S_d0_1_2_3 a0)) (finite bcast_S_S640x128 reducesTo_S640x128_S_d0_1 a1))
    (finite bcast_S_S640 reducesTo_S640_S_d0 a2)) (finite bcast_S_S640x128 reducesTo_S640x128_S_d0_1 a3))
    (finite bcast_S_S640 reducesTo_S640_S_d0 a4)) (finite bcast_S_S8x80 reducesTo_S8x80_S_d0_1 a5)) (finite bcast_S_S640 reducesTo_S640_S_d0 a6))
    (finite bcast_S_S1x640 reducesTo_S1x640_S_d0_1 a7)) (finite bcast_S_S1 reducesTo_S1_S_d0 a8)) (finite bcast_S_S1x640 reducesTo_S1x640_S_d0_1 a9))
    (finite bcast_S_S1 reducesTo_S1_S_d0 a10))
    (Host.reduce IntOp.andi (cmpi .eq (shapeCast S39862 (extractStridedSlice S1x39862 ![0, 0] a11 slices_S2x39862_S1x39862_0_0) shapeCasts_S1x39862_S39862) nodeWords) (constantI S_ 1 1#1) reducesTo_S39862_S_d0 h_S_))
    (Host.reduce IntOp.andi (cmpi .eq (shapeCast S39862 (extractStridedSlice S1x39862 ![1, 0] a11 slices_S2x39862_S1x39862_1_0) shapeCasts_S1x39862_S39862) otherWords) (constantI S_ 1 1#1) reducesTo_S39862_S_d0 h_S_) ix0 = 1#1 at h0
  obtain ⟨h0, e1⟩ := both h0
  obtain ⟨h0, e0⟩ := both h0
  obtain ⟨h0, f10⟩ := both h0
  obtain ⟨h0, f9⟩ := both h0
  obtain ⟨h0, f8⟩ := both h0
  obtain ⟨h0, f7⟩ := both h0
  obtain ⟨h0, f6⟩ := both h0
  obtain ⟨h0, f5⟩ := both h0
  obtain ⟨h0, f4⟩ := both h0
  obtain ⟨h0, f3⟩ := both h0
  obtain ⟨h0, f2⟩ := both h0
  obtain ⟨h0, f1⟩ := both h0
  obtain ⟨-, f0⟩ := both h0
  refine ⟨⟨fun b w k i => finite_real f0 _, fun j k => finite_real f1 _, fun j => finite_real f2 _, fun j k => finite_real f3 _, fun j => finite_real f4 _,
    fun h c => finite_real f5 _, fun j => finite_real f6 _, fun j => finite_real f7 _, finite_real f8 _, fun j => finite_real f9 _, finite_real f10 _⟩, fun e => ?_, fun e => ?_⟩
  · rw [← nodeWords_at, ← row_at e0 e]
    pointwise
  · rw [← otherWords_at, ← row_at e1 e]
    pointwise

end Cert.Pre_finite_and_edges.Decode
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import proofs.«01_k».proof.Proof.RefAt
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem Cert.Spec Cert.Pre_finite_and_edges.Decode

/-- The kernel as printed runs and leaves its arguments unchanged. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants have the values the certificate's table gives them. -/
theorem preserves : Cert.preserves_Kernel_KernelIdeal :=
  ⟨IdealRules.named_const.statement Cert.KernelIdeal.κ "one_minus_slope" .f32 0x3F4CCCCD#32
      ((53687091 / 67108864 : ℝ) : EReal) rfl,
    IdealRules.named_const.statement Cert.KernelIdeal.κ "mask" .f32 0xF149F2CA#32 ⊥ rfl⟩

/-- Whoever holds the arguments the precondition speaks of holds the reals it gives and the graph's edges. -/
theorem given {V0 : Valuation Cert.ReferenceIdeal.τ Cert.ReferenceIdeal.sig (Elt Ideal)} {b0 : FVec Ideal Cert.ReferenceIdeal.S4x100x128x19 .f32} {b1 : FVec Ideal Cert.ReferenceIdeal.S640x128 .f32} {b2 : FVec Ideal Cert.ReferenceIdeal.S640 .f32} {b3 : FVec Ideal Cert.ReferenceIdeal.S640x128 .f32} {b4 : FVec Ideal Cert.ReferenceIdeal.S640 .f32} {b5 : FVec Ideal Cert.ReferenceIdeal.S8x80 .f32} {b6 : FVec Ideal Cert.ReferenceIdeal.S640 .f32} {b7 : FVec Ideal Cert.ReferenceIdeal.S1x640 .f32} {b8 : FVec Ideal Cert.ReferenceIdeal.S1 .f32} {b9 : FVec Ideal Cert.ReferenceIdeal.S1x640 .f32} {b10 : FVec Ideal Cert.ReferenceIdeal.S1 .f32}
    {b11 : IVec Cert.ReferenceIdeal.S2x39862 32} (h : Cert.Pre_finite_and_edges.fn (F := Ideal) b0 b1 b2 b3 b4 b5 b6 b7 b8 b9 b10 b11 = fun _ => 1#1)
    (h0 : Cert.ReferenceIdeal.At.a0 V0 = b0) (h1 : Cert.ReferenceIdeal.At.a1 V0 = b1) (h2 : Cert.ReferenceIdeal.At.a2 V0 = b2) (h3 : Cert.ReferenceIdeal.At.a3 V0 = b3) (h4 : Cert.ReferenceIdeal.At.a4 V0 = b4) (h5 : Cert.ReferenceIdeal.At.a5 V0 = b5) (h6 : Cert.ReferenceIdeal.At.a6 V0 = b6) (h7 : Cert.ReferenceIdeal.At.a7 V0 = b7) (h8 : Cert.ReferenceIdeal.At.a8 V0 = b8) (h9 : Cert.ReferenceIdeal.At.a9 V0 = b9) (h10 : Cert.ReferenceIdeal.At.a10 V0 = b10)
    (h11 : Cert.ReferenceIdeal.At.edges V0 = b11) : Cert.ReferenceIdeal.At.Given V0 (inputs b0 b1 b2 b3 b4 b5 b6 b7 b8 b9 b10) := by
  subst h0 h1 h2 h3 h4 h5 h6 h7 h8 h9 h10 h11
  obtain ⟨r, s, d⟩ := decode _ _ _ _ _ _ _ _ _ _ _ _ h
  exact ⟨r, s, d⟩

/-- The reference's result array holds the value of the problem's mathematics, one real per graph. -/
theorem outcome_values {V0 : Valuation Cert.ReferenceIdeal.τ Cert.ReferenceIdeal.sig (Elt Ideal)} {I : Inputs}
    (H : Cert.ReferenceIdeal.At.Given V0 I) : Cert.ReferenceIdeal.At.outcome V0 = Cert.KernelIdeal.Chunk.values I := by
  funext i
  have e : i = ix3 (i 0) (i 1) (i 2) := by
    funext d
    fin_cases d <;> rfl
  rw [e]
  exact Cert.ReferenceIdeal.At.outcome_at H (i 0) (i 1) (i 2)

/-- The reals the kernel's arguments hold on a device. -/
def held (m : (ℓ : Loc Cert.KernelIdeal.nD Cert.KernelIdeal.τ Cert.KernelIdeal.sig) → Buf (Elt Ideal) ℓ) (c : Dev Cert.KernelIdeal.nD) : Inputs :=
  inputs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- On finite arguments and the problem's graph the idealized kernel and the reference leave the same array. -/
theorem algebraic : Cert.algebraic_KernelIdeal_ReferenceIdeal_pre_finite_and_edges := fun m g m' g' hpre hargs =>
  ⟨fun c => Cert.KernelIdeal.Chunk.values (held m c),
    (θ_run Cert.KernelIdeal.defs _ _).mono (fun r h c =>
        ⟨(h c).1.trans (Cert.KernelIdeal.Chunk.final m (decode _ _ _ _ _ _ _ _ _ _ _ _ (hpre c)).1), (h c).2⟩)
      (Cert.KernelIdeal.Value.run_blocks m g),
    (θ_run Cert.ReferenceIdeal.defs _ _).mono (fun r h c => by
        obtain ⟨h0, h1, h2, h3, h4, h5, h6, h7, h8, h9, h10, h11⟩ := hargs c
        exact ⟨(h c).1.trans (outcome_values (given (hpre c) h0 h1 h2 h3 h4 h5 h6 h7 h8 h9 h10 h11)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, facts,
    frame_kernel, frame_kernel_ideal, fun m ρ _ => Cert.KernelIdeal.Gen.frame m ρ,
    frame_reference, fun m ρ _ => frame_reference m ρ trivial, preserves, algebraic⟩

end Cert.Proof

end
